-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S64x4096 : Shape := ⟨2, ![64, 4096]⟩
abbrev S2048x4096 : Shape := ⟨2, ![2048, 4096]⟩
abbrev S2048 : Shape := ⟨1, ![2048]⟩
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S64x4096 .f32) (main_arg1 : FVec F S2048x4096 .f32) (main_arg2 : FVec F S2048 .f32) (main_arg3 : FVec F S4096x2048 .f32) (main_arg4 : FVec F S4096 .f32) : IVec S4096x2048 1 :=
  let main_v0 : FVec F S4096x2048 .f32 := Host.absf main_arg3
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Kernel.lean ====
abbrev S64x4096 : Shape := ⟨2, ![64, 4096]⟩
abbrev S2048x4096 : Shape := ⟨2, ![2048, 4096]⟩
abbrev S2048 : Shape := ⟨1, ![2048]⟩
abbrev S4096x2048 : Shape := ⟨2, ![4096, 2048]⟩
abbrev S4096 : Shape := ⟨1, ![4096]⟩
abbrev S4096x64 : Shape := ⟨2, ![4096, 64]⟩
abbrev S4096x1x64 : Shape := ⟨3, ![4096, 1, 64]⟩
abbrev S1x4096x64 : Shape := ⟨3, ![1, 4096, 64]⟩
abbrev S_ : Shape := ⟨0, ![]⟩
abbrev S1x2048 : Shape := ⟨2, ![1, 2048]⟩
abbrev S32x128x1 : Shape := ⟨3, ![32, 128, 1]⟩
abbrev S1x1x64 : Shape := ⟨3, ![1, 1, 64]⟩
abbrev S64x128 : Shape := ⟨2, ![64, 128]⟩
abbrev S1x128x64 : Shape := ⟨3, ![1, 128, 64]⟩
abbrev S128x2048 : Shape := ⟨2, ![128, 2048]⟩
abbrev S1x128x1 : Shape := ⟨3, ![1, 128, 1]⟩
abbrev S64x2048 : Shape := ⟨2, ![64, 2048]⟩
abbrev S128x64 : Shape := ⟨2, ![128, 64]⟩
abbrev S128x1x128 : Shape := ⟨3, ![128, 1, 128]⟩
abbrev S1x64x128 : Shape := ⟨3, ![1, 64, 128]⟩
abbrev S128x64x128 : Shape := ⟨3, ![128, 64, 128]⟩
abbrev S8192x128 : Shape := ⟨2, ![8192, 128]⟩
abbrev S128x128 : Shape := ⟨2, ![128, 128]⟩
abbrev S128x256 : Shape := ⟨2, ![128, 256]⟩
abbrev S8192x256 : Shape := ⟨2, ![8192, 256]⟩
abbrev S64x256 : Shape := ⟨2, ![64, 256]⟩
abbrev S128x1x256 : Shape := ⟨3, ![128, 1, 256]⟩
abbrev S128x64x256 : Shape := ⟨3, ![128, 64, 256]⟩
abbrev S128 : Shape := ⟨1, ![128]⟩
abbrev S128x1 : Shape := ⟨2, ![128, 1]⟩
abbrev S64 : Shape := ⟨1, ![64]⟩
abbrev S1x64 : Shape := ⟨2, ![1, 64]⟩

abbrev nBuf : Space → Nat
  | .hbm => 17
  | .vmem => 13
  | .smem => 0
  | _ => 0

abbrev bufTy : (tb : Table) → Fin (tcTables nBuf tb) → BufTy
  | .hbm, ⟨0, _⟩ => ⟨S64x4096, .f32⟩
  | .hbm, ⟨1, _⟩ => ⟨S2048x4096, .f32⟩
  | .hbm, ⟨2, _⟩ => ⟨S2048, .f32⟩
  | .hbm, ⟨3, _⟩ => ⟨S4096x2048, .f32⟩
  | .hbm, ⟨4, _⟩ => ⟨S4096, .f32⟩
  | .hbm, ⟨5, _⟩ => ⟨S4096x64, .f32⟩
  | .hbm, ⟨6, _⟩ => ⟨S4096x1x64, .f32⟩
  | .hbm, ⟨7, _⟩ => ⟨S1x4096x64, .f32⟩
  | .hbm, ⟨8, _⟩ => ⟨S4096x2048, .f32⟩
  | .hbm, ⟨9, _⟩ => ⟨S4096x2048, .bf16⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S32x128x1, .f32⟩
  | .hbm, ⟨15, _⟩ => ⟨S1x1x64, .f32⟩
  | .hbm, ⟨16, _⟩ => ⟨S64, .f32⟩
  | .local _ .vmem, ⟨0, _⟩ => ⟨S64x128, .f32⟩
  | .local _ .vmem, ⟨1, _⟩ => ⟨S64x128, .f32⟩
  | .local _ .vmem, ⟨2, _⟩ => ⟨S1x128x64, .f32⟩
  | .local _ .vmem, ⟨3, _⟩ => ⟨S1x128x64, .f32⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S1x128x1, .f32⟩
  | .local _ .vmem, ⟨9, _⟩ => ⟨S1x128x1, .f32⟩
  | .local _ .vmem, ⟨10, _⟩ => ⟨S1x2048, .f32⟩
  | .local _ .vmem, ⟨11, _⟩ => ⟨S1x1x64, .f32⟩
  | .local _ .vmem, ⟨12, _⟩ => ⟨S64x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ReferenceIdeal.lean ====
abbrev S64x4096 : Shape := ⟨2, ![64, 4096]⟩
abbrev S2048x4096 : Shape := ⟨2, ![2048, 4096]⟩
abbrev S2048 : Shape := ⟨1, ![2048]⟩
abbrev S4096x2048 : Shape := ⟨2, ![4096, 2048]⟩
abbrev S4096 : Shape := ⟨1, ![4096]⟩
abbrev S_ : Shape := ⟨0, ![]⟩
abbrev S64x2048 : Shape := ⟨2, ![64, 2048]⟩
abbrev S4096x64 : Shape := ⟨2, ![4096, 64]⟩
abbrev S1x2048 : Shape := ⟨2, ![1, 2048]⟩
abbrev S1 : Shape := ⟨1, ![1]⟩
abbrev S1x64 : Shape := ⟨2, ![1, 64]⟩
abbrev S64 : Shape := ⟨1, ![64]⟩
abbrev S64x1 : Shape := ⟨2, ![64, 1]⟩

abbrev nBuf : Space → Nat
  | .hbm => 100
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S2048x4096, .f32⟩
  | .hbm, ⟨2, _⟩ => ⟨S2048, .f32⟩
  | .hbm, ⟨3, _⟩ => ⟨S4096x2048, .f32⟩
  | .hbm, ⟨4, _⟩ => ⟨S4096, .f32⟩
  | .hbm, ⟨5, _⟩ => ⟨S_, .f32⟩
  | .hbm, ⟨6, _⟩ => ⟨S64x2048, .f32⟩
  | .hbm, ⟨7, _⟩ => ⟨S4096x2048, .f32⟩
  | .hbm, ⟨8, _⟩ => ⟨S4096x64, .f32⟩
  | .hbm, ⟨9, _⟩ => ⟨S_, .f32⟩
  | .hbm, ⟨10, _⟩ => ⟨S4096x64, .f32⟩
  | .hbm, ⟨11, _⟩ => ⟨S_, .i32⟩
  | .hbm, ⟨12, _⟩ => ⟨S4096x2048, .f32⟩
  | .hbm, ⟨13, _⟩ => ⟨S4096x2048, .f32⟩
  | .hbm, ⟨14, _⟩ => ⟨S4096, .f32⟩
  | .hbm, ⟨15, _⟩ => ⟨S4096x64, .f32⟩
  | .hbm, ⟨16, _⟩ => ⟨S2048, .f32⟩
  | .hbm, ⟨17, _⟩ => ⟨S_, .i32⟩
  | .hbm, ⟨18, _⟩ => ⟨S64x2048, .f32⟩
  | .hbm, ⟨19, _⟩ => ⟨S4096x64, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S1x2048, .f32⟩
  | .hbm, ⟨24, _⟩ => ⟨S2048, .f32⟩
  | .hbm, ⟨25, _⟩ => ⟨S_, .i32⟩
  | .hbm, ⟨26, _⟩ => ⟨S1x2048, .f32⟩
  | .hbm, ⟨27, _⟩ => ⟨S2048, .f32⟩
  | .hbm, ⟨28, _⟩ => ⟨S1, .f32⟩
  | .hbm, ⟨29, _⟩ => ⟨S_, .f32⟩
  | .hbm, ⟨30, _⟩ => ⟨S_, .i32⟩
  | .hbm, ⟨31, _⟩ => ⟨S1x64, .f32⟩
  | .hbm, ⟨32, _⟩ => ⟨S64, .f32⟩
  | .hbm, ⟨33, _⟩ => ⟨S1x2048, .f32⟩
  | .hbm, ⟨34, _⟩ => ⟨S64x2048, .f32⟩
  | .hbm, ⟨35, _⟩ => ⟨S64x2048, .f32⟩
  | .hbm, ⟨36, _⟩ => ⟨S64x2048, .f32⟩
  | .hbm, ⟨37, _⟩ => ⟨S64x2048, .f32⟩
  | .hbm, ⟨38, _⟩ => ⟨S_, .f32⟩
  | .hbm, ⟨39, _⟩ => ⟨S64x2048, .f32⟩
  | .hbm, ⟨40, _⟩ => ⟨S64x2048, .f32⟩
  | .hbm, ⟨41, _⟩ => ⟨S_, .f32⟩
  | .hbm, ⟨42, _⟩ => ⟨S64x2048, .f32⟩
  | .hbm, ⟨43, _⟩ => ⟨S64x2048, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64x1, .f32⟩
  | .hbm, ⟨48, _⟩ => ⟨S1x2048, .f32⟩
  | .hbm, ⟨49, _⟩ => ⟨S64x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S1x64, .f32⟩
  | .hbm, ⟨54, _⟩ => ⟨S_, .i32⟩
  | .hbm, ⟨55, _⟩ => ⟨S4096x64, .f32⟩
  | .hbm, ⟨56, _⟩ => ⟨S_, .i32⟩
  | .hbm, ⟨57, _⟩ => ⟨S_, .i32⟩
  | .hbm, ⟨58, _⟩ => ⟨S64x4096, .f32⟩
  | .hbm, ⟨59, _⟩ => ⟨S64x4096, .f32⟩
  | .hbm, ⟨60, _⟩ => ⟨S_, .f32⟩
  | .hbm, ⟨61, _⟩ => ⟨S64x4096, .f32⟩
  | .hbm, ⟨62, _⟩ => ⟨S64x4096, .f32⟩
  | .hbm, ⟨63, _⟩ => ⟨S64x4096, .f32⟩
  | .hbm, ⟨64, _⟩ => ⟨S64x4096, .f32⟩
  | .hbm, ⟨65, _⟩ => ⟨S64x4096, .i1⟩
  | .hbm, ⟨66, _⟩ => ⟨S64x4096, .f32⟩
  | .hbm, ⟨67, _⟩ => ⟨S64x4096, .f32⟩
  | .hbm, ⟨68, _⟩ => ⟨S64x4096, .f32⟩
  | .hbm, ⟨69, _⟩ => ⟨S64x4096, .f32⟩
  | .hbm, ⟨70, _⟩ => ⟨S64x4096, .f32⟩
  | .hbm, ⟨71, _⟩ => ⟨S64x4096, .f32⟩
  | .hbm, ⟨72, _⟩ => ⟨S64x4096, .f32⟩
  | .hbm, ⟨73, _⟩ => ⟨S64x4096, .f32⟩
  | .hbm, ⟨74, _⟩ => ⟨S64x4096, .f32⟩
  | .hbm, ⟨75, _⟩ => ⟨S64x4096, .f32⟩
  | .hbm, ⟨76, _⟩ => ⟨S_, .f32⟩
  | .hbm, ⟨77, _⟩ => ⟨S64x4096, .f32⟩
  | .hbm, ⟨78, _⟩ => ⟨S64x4096, .f32⟩
  | .hbm, ⟨79, _⟩ => ⟨S64x4096, .f32⟩
  | .hbm, ⟨80, _⟩ => ⟨S64x4096, .f32⟩
  | .hbm, ⟨81, _⟩ => ⟨S_, .f32⟩
  | .hbm, ⟨82, _⟩ => ⟨S64x4096, .f32⟩
  | .hbm, ⟨83, _⟩ => ⟨S64x4096, .f32⟩
  | .hbm, ⟨84, _⟩ => ⟨S64x4096, .f32⟩
  | .hbm, ⟨85, _⟩ => ⟨S64x4096, .f32⟩
  | .hbm, ⟨86, _⟩ => ⟨S64x4096, .i1⟩
  | .hbm, ⟨87, _⟩ => ⟨S64x4096, .f32⟩
  | .hbm, ⟨88, _⟩ => ⟨S64x4096, .f32⟩
  | .hbm, ⟨89, _⟩ => ⟨S64x4096, .f32⟩
  | .hbm, ⟨90, _⟩ => ⟨S64x4096, .f32⟩
  | .hbm, ⟨91, _⟩ => ⟨S64x4096, .f32⟩
  | .hbm, ⟨92, _⟩ => ⟨S64x4096, .f32⟩
  | .hbm, ⟨93, _⟩ => ⟨S64x4096, .f32⟩
  | .hbm, ⟨94, _⟩ => ⟨S64x4096, .f32⟩
  | .hbm, ⟨95, _⟩ => ⟨S64x4096, .f32⟩
  | .hbm, ⟨96, _⟩ => ⟨S64x4096, .f32⟩
  | .hbm, ⟨97, _⟩ => ⟨S64x4096, .f32⟩
  | .hbm, ⟨98, _⟩ => ⟨S_, .f32⟩
  | .hbm, ⟨99, _⟩ => ⟨S64, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_while0c_c_10 : Ref sig .tc := ⟨.hbm, 20, rfl⟩
abbrev main_while0c_v15 : Ref sig .tc := ⟨.hbm, 21, rfl⟩
abbrev main_while0b_call0_c : Ref sig .tc := ⟨.hbm, 22, rfl⟩
abbrev main_while0b_call0_v0 : Ref sig .tc := ⟨.hbm, 23, rfl⟩
abbrev main_while0b_v15 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_v16 : Ref sig .tc := ⟨.hbm, 27, rfl⟩
abbrev main_while0b_call2_v0 : Ref sig .tc := ⟨.hbm, 28, rfl⟩
abbrev main_while0b_v17 : Ref sig .tc := ⟨.hbm, 29, rfl⟩
abbrev main_while0b_call3_c : Ref sig .tc := ⟨.hbm, 30, rfl⟩
abbrev main_while0b_call3_v0 : Ref sig .tc := ⟨.hbm, 31, rfl⟩
abbrev main_while0b_v18 : Ref sig .tc := ⟨.hbm, 32, rfl⟩
abbrev main_while0b_v19 : Ref sig .tc := ⟨.hbm, 33, rfl⟩
abbrev main_while0b_v20 : Ref sig .tc := ⟨.hbm, 34, rfl⟩
abbrev main_while0b_v21 : Ref sig .tc := ⟨.hbm, 35, rfl⟩
abbrev main_while0b_v22 : Ref sig .tc := ⟨.hbm, 36, rfl⟩
abbrev main_while0b_v23 : Ref sig .tc := ⟨.hbm, 37, rfl⟩
abbrev main_while0b_cst_10 : Ref sig .tc := ⟨.hbm, 38, rfl⟩
abbrev main_while0b_v24 : Ref sig .tc := ⟨.hbm, 39, rfl⟩
abbrev main_while0b_v25 : Ref sig .tc := ⟨.hbm, 40, rfl⟩
abbrev main_while0b_cst_11 : Ref sig .tc := ⟨.hbm, 41, rfl⟩
abbrev main_while0b_v26 : Ref sig .tc := ⟨.hbm, 42, rfl⟩
abbrev main_while0b_v27 : Ref sig .tc := ⟨.hbm, 43, rfl⟩
abbrev main_while0b_v28 : Ref sig .tc := ⟨.hbm, 44, rfl⟩
abbrev main_while0b_v29 : Ref sig .tc := ⟨.hbm, 45, rfl⟩
abbrev main_while0b_v30 : Ref sig .tc := ⟨.hbm, 46, rfl⟩
abbrev main_while0b_v31 : Ref sig .tc := ⟨.hbm, 47, rfl⟩
abbrev main_while0b_v32 : Ref sig .tc := ⟨.hbm, 48, rfl⟩
abbrev main_while0b_v33 : Ref sig .tc := ⟨.hbm, 49, rfl⟩
abbrev main_while0b_v34 : Ref sig .tc := ⟨.hbm, 50, rfl⟩
abbrev main_while0b_v35 : Ref sig .tc := ⟨.hbm, 51, rfl⟩
abbrev main_while0b_v36 : Ref sig .tc := ⟨.hbm, 52, rfl⟩
abbrev main_while0b_call4_v0 : Ref sig .tc := ⟨.hbm, 53, rfl⟩
abbrev main_while0b_call4_c : Ref sig .tc := ⟨.hbm, 54, rfl⟩
abbrev main_while0b_v37 : Ref sig .tc := ⟨.hbm, 55, rfl⟩
abbrev main_while0b_c_12 : Ref sig .tc := ⟨.hbm, 56, rfl⟩
abbrev main_while0b_v38 : Ref sig .tc := ⟨.hbm, 57, rfl⟩
abbrev main_v5 : Ref sig .tc := ⟨.hbm, 58, rfl⟩
abbrev main_call5_v0 : Ref sig .tc := ⟨.hbm, 59, rfl⟩
abbrev main_call5_call0_cst : Ref sig .tc := ⟨.hbm, 60, rfl⟩
abbrev main_call5_call0_v0 : Ref sig .tc := ⟨.hbm, 61, rfl⟩
abbrev main_call5_call0_v1 : Ref sig .tc := ⟨.hbm, 62, rfl⟩
abbrev main_call5_call0_v2 : Ref sig .tc := ⟨.hbm, 63, rfl⟩
abbrev main_call5_call0_v3 : Ref sig .tc := ⟨.hbm, 64, rfl⟩
abbrev main_call5_call0_v4 : Ref sig .tc := ⟨.hbm, 65, rfl⟩
abbrev main_call5_call0_v5 : Ref sig .tc := ⟨.hbm, 66, rfl⟩
abbrev main_call5_call0_v6 : Ref sig .tc := ⟨.hbm, 67, rfl⟩
abbrev main_call5_call0_v7 : Ref sig .tc := ⟨.hbm, 68, rfl⟩
abbrev main_call5_call0_v8 : Ref sig .tc := ⟨.hbm, 69, rfl⟩
abbrev main_call5_call0_v9 : Ref sig .tc := ⟨.hbm, 70, rfl⟩
abbrev main_call5_call0_v10 : Ref sig .tc := ⟨.hbm, 71, rfl⟩
abbrev main_call5_call0_v11 : Ref sig .tc := ⟨.hbm, 72, rfl⟩
abbrev main_call5_v1 : Ref sig .tc := ⟨.hbm, 73, rfl⟩
abbrev main_v6 : Ref sig .tc := ⟨.hbm, 74, rfl⟩
abbrev main_v7 : Ref sig .tc := ⟨.hbm, 75, rfl⟩
abbrev main_cst_1 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_call6_v0 : Ref sig .tc := ⟨.hbm, 80, rfl⟩
abbrev main_call6_call0_cst : Ref sig .tc := ⟨.hbm, 81, rfl⟩
abbrev main_call6_call0_v0 : Ref sig .tc := ⟨.hbm, 82, rfl⟩
abbrev main_call6_call0_v1 : Ref sig .tc := ⟨.hbm, 83, rfl⟩
abbrev main_call6_call0_v2 : Ref sig .tc := ⟨.hbm, 84, rfl⟩
abbrev main_call6_call0_v3 : Ref sig .tc := ⟨.hbm, 85, rfl⟩
abbrev main_call6_call0_v4 : Ref sig .tc := ⟨.hbm, 86, rfl⟩
abbrev main_call6_call0_v5 : Ref sig .tc := ⟨.hbm, 87, rfl⟩
abbrev main_call6_call0_v6 : Ref sig .tc := ⟨.hbm, 88, rfl⟩
abbrev main_call6_call0_v7 : Ref sig .tc := ⟨.hbm, 89, rfl⟩
abbrev main_call6_call0_v8 : Ref sig .tc := ⟨.hbm, 90, rfl⟩
abbrev main_call6_call0_v9 : Ref sig .tc := ⟨.hbm, 91, rfl⟩
abbrev main_call6_call0_v10 : Ref sig .tc := ⟨.hbm, 92, rfl⟩
abbrev main_call6_call0_v11 : Ref sig .tc := ⟨.hbm, 93, rfl⟩
abbrev main_call6_v1 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_cst_2 : Ref sig .tc := ⟨.hbm, 98, rfl⟩
abbrev main_v14 : Ref sig .tc := ⟨.hbm, 99, rfl⟩

abbrev nD : Nat := 1
abbrev τ : Topo := Topo.v7x

variable {F : FTy → Type} [FloatOps F]

abbrev main_while0_count : Scf.Loop 32 := ⟨0#32, 4096#32, 1#32⟩
-- ==== Proof.Chunk.lean ====
module

public import proofs.«01_k».proof.Defs
public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

/-! # One 256-column chunk of a block

A block handles 128 positions and 64 examples at once: row `64 * k + b` of the tall arrays belongs to position `k` and
example `b`. The kernel walks the 2048 hidden columns in eight chunks of 256. Here a chunk is one function of the column
it starts at, and the two running sums over the chunks are folds of one step each. -/

namespace Cert.Proof.Chunk

open Idealize.ShloMosaic Idealize.ShloMosaic.TcCoe Idealize.SL.Sem
open Cert.KernelIdeal Cert.KernelIdeal.Gen

variable {F : FTy → Type} [FloatOps F]

/-- The 64 rows of `y` written 128 times one under the other. -/
def tile (y : FVec F S64x256 .f32) (h : Shape.Concatenates (List.replicate 128 S64x256) S8192x256 0) :
    FVec F S8192x256 .f32 :=
  concatenate S8192x256 0 (List.replicate 128 (⟨S64x256, y⟩ : (s : Shape) × (s.Idx → F .f32)))
    (by rw [List.map_replicate]; exact h)

/-- The 64 rows are tiled 128 times into 8192 rows. -/
theorem tile_ok : Shape.Concatenates (List.replicate 128 S64x256) S8192x256 0 := by decide

/-- The chunk of columns from `o`: the hyperbolic tangent of the masked rows times the weights plus the carried
    activations, times the output weights of that position. -/
def chunk (M : FVec F S8192x128 .bf16) (Wt : FVec F S128x2048 .bf16) (A : FVec F S64x2048 .f32)
    (v : FVec F S128x256 .f32) (o : ℕ) (hW : S128x2048.Slices ![0, o] S128x256) (hA : S64x2048.Slices ![0, o] S64x256) :
    FVec F S8192x256 .bf16 :=
  mulf (truncf .bf16 (tanh (addf (matmul dot_S8192x128_S128x256_S8192x256_1_0_0_1_n_n none M
      (extractStridedSlice S128x256 ![0, o] Wt hW) (constant S8192x256 .f32 0x00000000#32))
    (tile (extractStridedSlice S64x256 ![0, o] A hA) tile_ok))) bitsLt_bf16_f32)
    (truncf .bf16 (shapeCast S8192x256 (broadcastTo S128x64x256 (shapeCast S128x1x256 (shapeCast S128x1x256 v
      shapeCasts_S128x256_S128x1x256) shapeCasts_S128x1x256_S128x1x256) broadcasts_S128x1x256_S128x64x256)
      shapeCasts_S128x64x256_S8192x256) bitsLt_bf16_f32)

/-- A running sum of 128 lanes takes the two halves of a chunk. -/
def addHalves (acc : FVec F S8192x128 .bf16) (g : FVec F S8192x256 .bf16) : FVec F S8192x128 .bf16 :=
  addf (addf acc (extractStridedSlice S8192x128 ![0, 0] g slices_S8192x256_o0_0_S8192x128))
    (extractStridedSlice S8192x128 ![0, 128] g slices_S8192x256_o0_128_S8192x128)

/-- The same step for the output weights themselves. -/
def addHalvesV (acc : FVec F S128x128 .f32) (g : FVec F S128x256 .f32) : FVec F S128x128 .f32 :=
  addf (addf acc (extractStridedSlice S128x128 ![0, 0] g slices_S128x256_o0_0_S128x128))
    (extractStridedSlice S128x128 ![0, 128] g slices_S128x256_o0_128_S128x128)

/-- The columns from `o` of a block of output weights. -/
def cols (x3 : Vec F S128x2048 .f32) (o : ℕ) (h : S128x2048.Slices ![0, o] S128x256) : FVec F S128x256 .f32 :=
  extractStridedSlice S128x256 ![0, o] x3 h

/-- The running sum of the products over all eight chunks. -/
def prodTotal (M : FVec F S8192x128 .bf16) (Wt : FVec F S128x2048 .bf16) (A : FVec F S64x2048 .f32)
    (x3 : Vec F S128x2048 .f32) : FVec F S8192x128 .bf16 :=
  addHalves (addHalves (addHalves (addHalves (addHalves (addHalves (addHalves (addHalves (broadcast S8192x128 (Scalar.ofBits .bf16 0x0000#16))
    (chunk M Wt A (cols x3 0 slices_S128x2048_o0_0_S128x256) 0 slices_S128x2048_o0_0_S128x256 slices_S64x2048_o0_0_S64x256))
    (chunk M Wt A (cols x3 256 slices_S128x2048_o0_256_S128x256) 256 slices_S128x2048_o0_256_S128x256 slices_S64x2048_o0_256_S64x256))
    (chunk M Wt A (cols x3 512 slices_S128x2048_o0_512_S128x256) 512 slices_S128x2048_o0_512_S128x256 slices_S64x2048_o0_512_S64x256))
    (chunk M Wt A (cols x3 768 slices_S128x2048_o0_768_S128x256) 768 slices_S128x2048_o0_768_S128x256 slices_S64x2048_o0_768_S64x256))
    (chunk M Wt A (cols x3 1024 slices_S128x2048_o0_1024_S128x256) 1024 slices_S128x2048_o0_1024_S128x256 slices_S64x2048_o0_1024_S64x256))
    (chunk M Wt A (cols x3 1280 slices_S128x2048_o0_1280_S128x256) 1280 slices_S128x2048_o0_1280_S128x256 slices_S64x2048_o0_1280_S64x256))
    (chunk M Wt A (cols x3 1536 slices_S128x2048_o0_1536_S128x256) 1536 slices_S128x2048_o0_1536_S128x256 slices_S64x2048_o0_1536_S64x256))
    (chunk M Wt A (cols x3 1792 slices_S128x2048_o0_1792_S128x256) 1792 slices_S128x2048_o0_1792_S128x256 slices_S64x2048_o0_1792_S64x256)

/-- The running sum of the output weights over all eight chunks. -/
def weightTotal (x3 : Vec F S128x2048 .f32) : FVec F S128x128 .f32 :=
  addHalvesV (addHalvesV (addHalvesV (addHalvesV (addHalvesV (addHalvesV (addHalvesV (addHalvesV (broadcast S128x128 (Scalar.ofBits .f32 0x00000000#32))
    (cols x3 0 slices_S128x2048_o0_0_S128x256))
    (cols x3 256 slices_S128x2048_o0_256_S128x256))
    (cols x3 512 slices_S128x2048_o0_512_S128x256))
    (cols x3 768 slices_S128x2048_o0_768_S128x256))
    (cols x3 1024 slices_S128x2048_o0_1024_S128x256))
    (cols x3 1280 slices_S128x2048_o0_1280_S128x256))
    (cols x3 1536 slices_S128x2048_o0_1536_S128x256))
    (cols x3 1792 slices_S128x2048_o0_1792_S128x256)

end Cert.Proof.Chunk

end
-- ==== Proof.Block.lean ====
module

public import proofs.«01_k».proof.Proof.Chunk

@[expose] public section

set_option maxRecDepth 65536

noncomputable section

/-! # What one grid point computes

A grid point reads six blocks: the examples' bits `x0`, the same bits transposed `x1`, the weights `x2`, the output
weights `x3`, the biases `x4` and the halved offset `x5`. It updates the result and the carried activations. -/

namespace Cert.Proof.Block

open Idealize.ShloMosaic Idealize.ShloMosaic.TcCoe Idealize.SL.Sem
open Cert.KernelIdeal Cert.KernelIdeal.Gen Cert.Proof.Chunk

variable {F : FTy → Type} [FloatOps F]

/-- The columns from `o` of a block of output weights are what the load at column `o` reads. -/
theorem ld_cols (x3 : Vec F S128x2048 .f32) (o : ℕ) (h : ∀ a, ![0, o] a + ![128, 256] a ≤ S128x2048.size a)
    (hs : S128x2048.Slices ![0, o] S128x256) :
    View.ld x3 (Rect.unit ![0, o] ![128, 256] h) = cols x3 o hs := by
  rw [View.ld_unit]
  rfl

/-- The carried activations after a grid point that found `A`. -/
def nextAct (x1 : Vec F S1x128x64 .f32) (x2 : Vec F S128x2048 .bf16) (A : Vec F S64x2048 .f32) :
    Vec F S64x2048 .f32 :=
  k0_pay2 (k0_pay5 x1) (k0_pay6 x2) A

/-- The result after a grid point that found activations `A` and the result `o`, from the block's totals: the running
    sum of the products `t`, and the running sum of the output weights split as `p` and a last piece `q`. -/
def finish (x1 : Vec F S1x128x64 .f32) (p q : FVec F S128x128 .f32) (t : FVec F S8192x128 .bf16)
    (x4 : Vec F S1x128x1 .f32) (o : Vec F S1x1x64 .f32) : Vec F S1x1x64 .f32 :=
  k0_pay1 (k0_pay22 (k0_pay5 x1) p t q x4) (k0_pay23 (k0_pay5 x1)) (k0_pay24 p t q x4)
    (Scalar.ofBits .f32 0x00000000#32) (k0_pay25 p t q x4) (k0_pay26 p t q x4) (k0_pay27 p t q x4) o

/-- The running sum of the output weights up to the last piece of 128 lanes. -/
def weightHead (x3 : Vec F S128x2048 .f32) : FVec F S128x128 .f32 :=
  k0_pay18 (k0_pay15 (k0_pay12 k0_pay8 (cols x3 0 slices_S128x2048_o0_0_S128x256)
    (cols x3 256 slices_S128x2048_o0_256_S128x256) (cols x3 512 slices_S128x2048_o0_512_S128x256))
    (cols x3 768 slices_S128x2048_o0_768_S128x256) (cols x3 1024 slices_S128x2048_o0_1024_S128x256))
    (cols x3 1280 slices_S128x2048_o0_1280_S128x256) (cols x3 1536 slices_S128x2048_o0_1536_S128x256)
    (cols x3 1792 slices_S128x2048_o0_1792_S128x256)

/-- The last piece of 128 lanes of the output weights. -/
def weightLast (x3 : Vec F S128x2048 .f32) : FVec F S128x128 .f32 :=
  k0_pay20 (cols x3 1792 slices_S128x2048_o0_1792_S128x256)

/-- The head and the last piece make the running sum over all chunks. -/
theorem weight_split (x3 : Vec F S128x2048 .f32) : addf (weightHead x3) (weightLast x3) = weightTotal x3 := rfl

/-- The result after a grid point that found activations `A` and the result `o`. -/
def nextOut (x0 : Vec F S64x128 .f32) (x1 : Vec F S1x128x64 .f32) (x2 : Vec F S128x2048 .bf16)
    (x3 : Vec F S128x2048 .f32) (x4 : Vec F S1x128x1 .f32) (A : Vec F S64x2048 .f32) (o : Vec F S1x1x64 .f32) :
    Vec F S1x1x64 .f32 :=
  finish x1 (weightHead x3) (weightLast x3) (prodTotal (k0_pay7 x0) (k0_pay6 x2) A x3) x4 o

/-- The printed running sum of the products is the fold over the eight chunks. -/
theorem prod_printed (x0 : Vec F S64x128 .f32) (x2 : Vec F S128x2048 .bf16) (x3 : Vec F S128x2048 .f32)
    (A : Vec F S64x2048 .f32) :
    k0_pay19 (k0_pay6 x2) A (k0_pay7 x0)
      (k0_pay14 (k0_pay6 x2) A (k0_pay7 x0)
        (k0_pay11 (k0_pay6 x2) A (k0_pay7 x0) (k0_pay9 x0 x2 A (cols x3 0 slices_S128x2048_o0_0_S128x256))
          (k0_pay10 x0 x2 A (cols x3 0 slices_S128x2048_o0_0_S128x256)) (cols x3 256 slices_S128x2048_o0_256_S128x256)
          (cols x3 512 slices_S128x2048_o0_512_S128x256))
        (cols x3 768 slices_S128x2048_o0_768_S128x256) (k0_pay13 (k0_pay6 x2)) (cols x3 1024 slices_S128x2048_o0_1024_S128x256))
      (k0_pay16 (k0_pay6 x2) A (k0_pay7 x0)) (k0_pay17 (cols x3 1280 slices_S128x2048_o0_1280_S128x256))
      (cols x3 1536 slices_S128x2048_o0_1536_S128x256) (cols x3 1792 slices_S128x2048_o0_1792_S128x256) = prodTotal (k0_pay7 x0) (k0_pay6 x2) A x3 := rfl

/-- A later grid point leaves the next result over what it found. -/
theorem out_B (c : Dev nD) (i : grid0.Coords) (arg2 : Memref sig .tc .vmem S64x128 .f32) (harg2 : arg2.IsWhole)
    (arg3 : Memref sig .tc .vmem S1x128x64 .f32) (harg3 : arg3.IsWhole) (arg4 : Memref sig .tc .vmem S128x2048 .bf16)
    (harg4 : arg4.IsWhole) (arg5 : Memref sig .tc .vmem S128x2048 .f32) (harg5 : arg5.IsWhole)
    (arg6 : Memref sig .tc .vmem S1x128x1 .f32) (harg6 : arg6.IsWhole) (arg7 : Memref sig .tc .vmem S1x2048 .f32)
    (harg7 : arg7.IsWhole) (arg8 : Memref sig .tc .vmem S1x1x64 .f32) (harg8 : arg8.IsWhole)
    (arg9 : Memref sig .tc .vmem S64x2048 .f32) (harg9 : arg9.IsWhole)
    (hc0 : ¬cond0_0 i) (x0 : Vec F S64x128 .f32) (x1 : Vec F S1x128x64 .f32) (x2 : Vec F S128x2048 .bf16) (x3 : Vec F S128x2048 .f32)
    (x4 : Vec F S1x128x1 .f32) (x5 : Vec F S1x2048 .f32)
    (xo6 : Vec F S1x1x64 .f32) (xs0 : Vec F S64x2048 .f32) :
    out0_B_6 c i arg2 harg2 arg3 harg3 arg4 harg4 arg5 harg5 arg6 harg6 arg7 harg7 arg8 harg8 arg9 harg9
      hc0 x0 x1 x2 x3 x4 x5 xo6 xs0 = nextOut x0 x1 x2 x3 x4 xs0 xo6 := by
  frame_out
  simp only [ld_cols x3 0 inb_S128x2048_S128x256_0_0 slices_S128x2048_o0_0_S128x256,
    ld_cols x3 256 inb_S128x2048_S128x256_0_256 slices_S128x2048_o0_256_S128x256,
    ld_cols x3 512 inb_S128x2048_S128x256_0_512 slices_S128x2048_o0_512_S128x256,
    ld_cols x3 768 inb_S128x2048_S128x256_0_768 slices_S128x2048_o0_768_S128x256,
    ld_cols x3 1024 inb_S128x2048_S128x256_0_1024 slices_S128x2048_o0_1024_S128x256,
    ld_cols x3 1280 inb_S128x2048_S128x256_0_1280 slices_S128x2048_o0_1280_S128x256,
    ld_cols x3 1536 inb_S128x2048_S128x256_0_1536 slices_S128x2048_o0_1536_S128x256,
    ld_cols x3 1792 inb_S128x2048_S128x256_0_1792 slices_S128x2048_o0_1792_S128x256, prod_printed]
  rfl

/-- The first grid point leaves the next result over zero and the halved offset. -/
theorem out_A (c : Dev nD) (i : grid0.Coords) (arg2 : Memref sig .tc .vmem S64x128 .f32) (harg2 : arg2.IsWhole)
    (arg3 : Memref sig .tc .vmem S1x128x64 .f32) (harg3 : arg3.IsWhole) (arg4 : Memref sig .tc .vmem S128x2048 .bf16)
    (harg4 : arg4.IsWhole) (arg5 : Memref sig .tc .vmem S128x2048 .f32) (harg5 : arg5.IsWhole)
    (arg6 : Memref sig .tc .vmem S1x128x1 .f32) (harg6 : arg6.IsWhole) (arg7 : Memref sig .tc .vmem S1x2048 .f32)
    (harg7 : arg7.IsWhole) (arg8 : Memref sig .tc .vmem S1x1x64 .f32) (harg8 : arg8.IsWhole)
    (arg9 : Memref sig .tc .vmem S64x2048 .f32) (harg9 : arg9.IsWhole)
    (hc0 : cond0_0 i) (x0 : Vec F S64x128 .f32) (x1 : Vec F S1x128x64 .f32) (x2 : Vec F S128x2048 .bf16) (x3 : Vec F S128x2048 .f32)
    (x4 : Vec F S1x128x1 .f32) (x5 : Vec F S1x2048 .f32) :
    out0_A_6 c i arg2 harg2 arg3 harg3 arg4 harg4 arg5 harg5 arg6 harg6 arg7 harg7 arg8 harg8 arg9 harg9
      hc0 x0 x1 x2 x3 x4 x5 = nextOut x0 x1 x2 x3 x4 (k0_pay3 x5) k0_pay4 := by
  frame_out
  simp only [ld_cols x3 0 inb_S128x2048_S128x256_0_0 slices_S128x2048_o0_0_S128x256,
    ld_cols x3 256 inb_S128x2048_S128x256_0_256 slices_S128x2048_o0_256_S128x256,
    ld_cols x3 512 inb_S128x2048_S128x256_0_512 slices_S128x2048_o0_512_S128x256,
    ld_cols x3 768 inb_S128x2048_S128x256_0_768 slices_S128x2048_o0_768_S128x256,
    ld_cols x3 1024 inb_S128x2048_S128x256_0_1024 slices_S128x2048_o0_1024_S128x256,
    ld_cols x3 1280 inb_S128x2048_S128x256_0_1280 slices_S128x2048_o0_1280_S128x256,
    ld_cols x3 1536 inb_S128x2048_S128x256_0_1536 slices_S128x2048_o0_1536_S128x256,
    ld_cols x3 1792 inb_S128x2048_S128x256_0_1792 slices_S128x2048_o0_1792_S128x256, prod_printed]
  rfl

/-- A later grid point leaves the next activations over what it found. -/
theorem sout_B (c : Dev nD) (i : grid0.Coords) (arg2 : Memref sig .tc .vmem S64x128 .f32) (harg2 : arg2.IsWhole)
    (arg3 : Memref sig .tc .vmem S1x128x64 .f32) (harg3 : arg3.IsWhole) (arg4 : Memref sig .tc .vmem S128x2048 .bf16)
    (harg4 : arg4.IsWhole) (arg5 : Memref sig .tc .vmem S128x2048 .f32) (harg5 : arg5.IsWhole)
    (arg6 : Memref sig .tc .vmem S1x128x1 .f32) (harg6 : arg6.IsWhole) (arg7 : Memref sig .tc .vmem S1x2048 .f32)
    (harg7 : arg7.IsWhole) (arg8 : Memref sig .tc .vmem S1x1x64 .f32) (harg8 : arg8.IsWhole)
    (arg9 : Memref sig .tc .vmem S64x2048 .f32) (harg9 : arg9.IsWhole)
    (hc0 : ¬cond0_0 i) (x0 : Vec F S64x128 .f32) (x1 : Vec F S1x128x64 .f32) (x2 : Vec F S128x2048 .bf16) (x3 : Vec F S128x2048 .f32)
    (x4 : Vec F S1x128x1 .f32) (x5 : Vec F S1x2048 .f32)
    (xo6 : Vec F S1x1x64 .f32) (xs0 : Vec F S64x2048 .f32) :
    sout0_B_0 c i arg2 harg2 arg3 harg3 arg4 harg4 arg5 harg5 arg6 harg6 arg7 harg7 arg8 harg8 arg9 harg9
      hc0 x0 x1 x2 x3 x4 x5 xo6 xs0 = nextAct x1 x2 xs0 := by
  frame_out
  rfl

/-- The first grid point leaves the next activations over the halved offset. -/
theorem sout_A (c : Dev nD) (i : grid0.Coords) (arg2 : Memref sig .tc .vmem S64x128 .f32) (harg2 : arg2.IsWhole)
    (arg3 : Memref sig .tc .vmem S1x128x64 .f32) (harg3 : arg3.IsWhole) (arg4 : Memref sig .tc .vmem S128x2048 .bf16)
    (harg4 : arg4.IsWhole) (arg5 : Memref sig .tc .vmem S128x2048 .f32) (harg5 : arg5.IsWhole)
    (arg6 : Memref sig .tc .vmem S1x128x1 .f32) (harg6 : arg6.IsWhole) (arg7 : Memref sig .tc .vmem S1x2048 .f32)
    (harg7 : arg7.IsWhole) (arg8 : Memref sig .tc .vmem S1x1x64 .f32) (harg8 : arg8.IsWhole)
    (arg9 : Memref sig .tc .vmem S64x2048 .f32) (harg9 : arg9.IsWhole)
    (hc0 : cond0_0 i) (x0 : Vec F S64x128 .f32) (x1 : Vec F S1x128x64 .f32) (x2 : Vec F S128x2048 .bf16) (x3 : Vec F S128x2048 .f32)
    (x4 : Vec F S1x128x1 .f32) (x5 : Vec F S1x2048 .f32) :
    sout0_A_0 c i arg2 harg2 arg3 harg3 arg4 harg4 arg5 harg5 arg6 harg6 arg7 harg7 arg8 harg8 arg9 harg9
      hc0 x0 x1 x2 x3 x4 x5 = nextAct x1 x2 (k0_pay3 x5) := by
  frame_out
  rfl

end Cert.Proof.Block

end
-- ==== Proof.Algebra.lean ====
module

public import proofs.«01_k».proof.Defs
public import Idealize.ShloMosaic.Lib.Pointwise

@[expose] public section

noncomputable section

/-! # The scalar identities behind the kernel

The kernel evaluates the logistic function through the hyperbolic tangent at half the argument, and keeps that half in
its running activations. Over the extended reals the identities hold at the infinities too. -/

namespace Cert.Proof.Algebra

open Idealize.ShloMosaic

/-- One half. -/
def half : EReal := ((1 / 2 : ℝ) : EReal)

/-- The single-precision word of one half stands for one half. -/
theorem ofBits_half : Ideal.ofBits FTy.f32 0x3F000000#32 = half := by
  simp [Ideal.ofBits, Ideal.ieee, half, -EReal.coe_mul]; norm_num

/-- Halving distributes over a sum of two extended reals. -/
theorem half_add (x y : EReal) : half * (x + y) = half * x + half * y :=
  EReal.left_distrib_of_nonneg_of_ne_top (EReal.coe_nonneg.2 (by norm_num)) (EReal.coe_ne_top _) x y

/-- Halving distributes over a finite sum of extended reals. -/
theorem half_sum {ι : Type*} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

/-- The hyperbolic tangent of an extended real is a real number. -/
theorem tanh_real (z : EReal) : ∃ t : ℝ, Ideal.tanh z = (t : EReal) := by
  induction z with
  | bot => exact ⟨-1, by simp⟩
  | top => exact ⟨1, by simp⟩
  | coe r => exact ⟨Real.tanh r, rfl⟩

/-- The logistic function is the mean of one and the hyperbolic tangent of half the argument. -/
theorem logistic_eq (z : EReal) : Ideal.logistic z = half + half * Ideal.tanh (half * z) := by
  have hpos : (0 : ℝ) < 1 / 2 := by norm_num
  induction z with
  | bot =>
    rw [half, EReal.coe_mul_bot_of_pos hpos, Ideal.tanh_bot, Ideal.logistic_bot, ← EReal.coe_one, ← EReal.coe_neg, ← EReal.coe_mul,
      ← EReal.coe_add, ← EReal.coe_zero]
    congr 1; norm_num
  | top =>
    rw [half, EReal.coe_mul_top_of_pos hpos, Ideal.tanh_top, Ideal.logistic_top]
    norm_cast; norm_num
  | coe r =>
    rw [half, Ideal.logistic_coe, ← EReal.coe_mul, Ideal.tanh_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have hp := Real.exp_pos (1 / 2 * r)
    have hq := Real.exp_pos (-(1 / 2 * r))
    rw [h1]
    generalize Real.exp (1 / 2 * r) = p at *
    generalize Real.exp (-(1 / 2 * r)) = q at *
    have hd : 1 + q * q ≠ 0 := by positivity
    have hs : p + q ≠ 0 := by positivity
    field_simp
    linear_combination (-2 * q) * h2

/-- A finite sum of reals is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- One logit: with real output weights, the bias plus half the weights plus half the tangents times the weights is the
    bias plus the logistic activations times the weights. -/
theorem logit_eq {ι : Type*} (s : Finset ι) (β : EReal) (z v : ι → EReal) (hv : ∀ j, ∃ t : ℝ, v j = (t : EReal)) :
    β + half * ∑ j ∈ s, v j + half * ∑ j ∈ s, Ideal.tanh (half * z j) * v j
      = β + ∑ j ∈ s, Ideal.logistic (z j) * v j := by
  choose w hw using hv
  choose t ht using fun j => tanh_real (half * z j)
  have hl : ∀ j, Ideal.logistic (z j) = ((1 / 2 + 1 / 2 * t j : ℝ) : EReal) := fun j => by
    rw [logistic_eq, ht j, half, ← EReal.coe_mul, ← EReal.coe_add]
  simp only [hw, ht, hl, ← EReal.coe_mul, sum_coe]
  rw [half, ← EReal.coe_mul, ← EReal.coe_mul]
  rw [add_assoc, ← EReal.coe_add]
  congr 2
  rw [Finset.mul_sum, Finset.mul_sum, ← Finset.sum_add_distrib]
  exact Finset.sum_congr rfl fun j _ => by ring

/-- The logarithm of the logistic function, as both programs evaluate it. -/
def logSig (l : EReal) : EReal :=
  -(max (-l) 0 + Ideal.log1p (Ideal.exp (-(FloatOps.absf (F := Ideal) (φ := .f32) (-l)))))

/-- The log-likelihood of one bit `x` at the logit `l`. -/
def bitLik (x l : EReal) : EReal := x * logSig l + (1 - x) * logSig (-l)

/-- A masked sum over all positions of a block is the sum over the positions before `k`. -/
theorem masked_sum {n : ℕ} (k : Fin n) (f : Fin n → EReal) :
    ∑ i : Fin n, (if i < k then half else 0) * f i = half * ∑ i : Fin n, if i < k then f i else 0 := by
  rw [half_sum]
  refine Finset.sum_congr rfl fun i _ => ?_
  split <;> simp

end Cert.Proof.Algebra

end
-- ==== Proof.ChunkValue.lean ====
module

public import proofs.«01_k».proof.Proof.Chunk
public import proofs.«01_k».proof.Proof.Algebra

@[expose] public section

set_option maxRecDepth 65536

noncomputable section

/-! # The running sums of a block, entry by entry -/

namespace Cert.Proof.Chunk

open Idealize.ShloMosaic Idealize.ShloMosaic.TcCoe Idealize.SL.Sem
open Cert.KernelIdeal Cert.KernelIdeal.Gen Cert.Proof.Algebra

/-- The tiled rows at row `r` are the rows at the example of `r`. -/
theorem tile_apply (y : FVec Ideal S64x256 .f32) (r : Fin 8192) (j : Fin 256) :
    tile y tile_ok (ix2 r j) = y (ix2 ⟨r.val % 64, by omega⟩ j) := by
  refine concatenate_replicate_apply (t := S8192x256) (s₁ := S64x256) 0 128 y _ rfl (ix2 r j)
    (ix2 ⟨r.val % 64, by omega⟩ j) rfl ?_
  intro b hb
  fin_cases b
  · exact absurd rfl hb
  · rfl

/-- One product: the hyperbolic tangent at row `r` and hidden column `J`, times the output weight of the position of
    `r` at `J`. -/
def term (M : FVec Ideal S8192x128 .bf16) (Wt : FVec Ideal S128x2048 .bf16) (A : FVec Ideal S64x2048 .f32)
    (x3 : Vec Ideal S128x2048 .f32) (r : Fin 8192) (J : Fin 2048) : EReal :=
  Ideal.tanh (∑ i : Fin 128, M (ix2 r i) * Wt (ix2 i J) + A (ix2 ⟨r.val % 64, by omega⟩ J))
    * x3 (ix2 ⟨r.val / 64, by omega⟩ J)

/-- A chunk's entry is the product at its column. -/
theorem chunk_apply (M : FVec Ideal S8192x128 .bf16) (Wt : FVec Ideal S128x2048 .bf16) (A : FVec Ideal S64x2048 .f32)
    (x3 : Vec Ideal S128x2048 .f32) (o : ℕ) (ho : o + 256 ≤ 2048) (hW : S128x2048.Slices ![0, o] S128x256)
    (hA : S64x2048.Slices ![0, o] S64x256) (r : Fin 8192) (j : Fin 256) :
    chunk M Wt A (cols x3 o hW) o hW hA (ix2 r j) = term M Wt A x3 r ⟨o + j.val, by omega⟩ := by
  pointwise [chunk, cols]
  rw [tile_apply]
  pointwise [term]

/-- One step of the running sum, at an entry. -/
theorem addHalves_apply (acc : FVec Ideal S8192x128 .bf16) (g : FVec Ideal S8192x256 .bf16) (r : Fin 8192)
    (l : Fin 128) : addHalves acc g (ix2 r l)
      = acc (ix2 r l) + g (ix2 r ⟨l.val, by omega⟩) + g (ix2 r ⟨128 + l.val, by omega⟩) := by
  pointwise [addHalves]

/-- One step of the running sum of the output weights, at an entry. -/
theorem addHalvesV_apply (acc : FVec Ideal S128x128 .f32) (g : FVec Ideal S128x256 .f32) (k : Fin 128)
    (l : Fin 128) : addHalvesV acc g (ix2 k l)
      = acc (ix2 k l) + g (ix2 k ⟨l.val, by omega⟩) + g (ix2 k ⟨128 + l.val, by omega⟩) := by
  pointwise [addHalvesV]

/-- The columns from `o`, at an entry. -/
theorem cols_apply (x3 : Vec Ideal S128x2048 .f32) (o : ℕ) (ho : o + 256 ≤ 2048)
    (hW : S128x2048.Slices ![0, o] S128x256) (k : Fin 128) (j : Fin 256) :
    cols x3 o hW (ix2 k j) = x3 (ix2 k ⟨o + j.val, by omega⟩) := by
  pointwise [cols]

/-- The sixteen pieces of 128 lanes at lane `l`, added in order, are the sum over the pieces. -/
theorem pieces (f : Fin 2048 → EReal) (l : Fin 128) :
    0 + f ⟨0 + l.val, by omega⟩ + f ⟨0 + (128 + l.val), by omega⟩
      + f ⟨256 + l.val, by omega⟩ + f ⟨256 + (128 + l.val), by omega⟩
      + f ⟨512 + l.val, by omega⟩ + f ⟨512 + (128 + l.val), by omega⟩
      + f ⟨768 + l.val, by omega⟩ + f ⟨768 + (128 + l.val), by omega⟩
      + f ⟨1024 + l.val, by omega⟩ + f ⟨1024 + (128 + l.val), by omega⟩
      + f ⟨1280 + l.val, by omega⟩ + f ⟨1280 + (128 + l.val), by omega⟩
      + f ⟨1536 + l.val, by omega⟩ + f ⟨1536 + (128 + l.val), by omega⟩
      + f ⟨1792 + l.val, by omega⟩ + f ⟨1792 + (128 + l.val), by omega⟩
      = ∑ p : Fin 16, f ⟨p.val * 128 + l.val, by omega⟩ := by
  have e : ∀ (a b : ℕ) (ha : a + (128 + l.val) < 2048) (hb : b + l.val < 2048), a + 128 = b →
      f ⟨a + (128 + l.val), ha⟩ = f ⟨b + l.val, hb⟩ := fun a b ha hb h => by congr 2; omega
  rw [e 0 128 _ (by omega) rfl, e 256 384 _ (by omega) rfl, e 512 640 _ (by omega) rfl, e 768 896 _ (by omega) rfl,
    e 1024 1152 _ (by omega) rfl, e 1280 1408 _ (by omega) rfl, e 1536 1664 _ (by omega) rfl,
    e 1792 1920 _ (by omega) rfl]
  simp only [Fin.sum_univ_castSucc, Fin.sum_univ_zero]
  rfl

/-- Adding up the 128 lanes of the sixteen pieces adds up all 2048 columns. -/
theorem lanes (f : Fin 2048 → EReal) :
    ∑ l : Fin 128, ∑ p : Fin 16, f ⟨p.val * 128 + l.val, by omega⟩ = ∑ J : Fin 2048, f J := by
  rw [Finset.sum_comm, Fin.sum_univ_tiles 16 128 rfl f]

/-- The running sum of the products after the eight chunks. -/
theorem prodTotal_apply (M : FVec Ideal S8192x128 .bf16) (Wt : FVec Ideal S128x2048 .bf16)
    (A : FVec Ideal S64x2048 .f32) (x3 : Vec Ideal S128x2048 .f32) (r : Fin 8192) (l : Fin 128) :
    prodTotal M Wt A x3 (ix2 r l) = ∑ p : Fin 16, term M Wt A x3 r ⟨p.val * 128 + l.val, by omega⟩ := by
  rw [← pieces (term M Wt A x3 r) l, prodTotal]
  simp only [addHalves_apply]
  rw [chunk_apply _ _ _ _ 0 (by norm_num), chunk_apply _ _ _ _ 0 (by norm_num),
    chunk_apply _ _ _ _ 256 (by norm_num), chunk_apply _ _ _ _ 256 (by norm_num),
    chunk_apply _ _ _ _ 512 (by norm_num), chunk_apply _ _ _ _ 512 (by norm_num),
    chunk_apply _ _ _ _ 768 (by norm_num), chunk_apply _ _ _ _ 768 (by norm_num),
    chunk_apply _ _ _ _ 1024 (by norm_num), chunk_apply _ _ _ _ 1024 (by norm_num),
    chunk_apply _ _ _ _ 1280 (by norm_num), chunk_apply _ _ _ _ 1280 (by norm_num),
    chunk_apply _ _ _ _ 1536 (by norm_num), chunk_apply _ _ _ _ 1536 (by norm_num),
    chunk_apply _ _ _ _ 1792 (by norm_num), chunk_apply _ _ _ _ 1792 (by norm_num)]
  pointwise

/-- The running sum of the output weights after the eight chunks. -/
theorem weightTotal_apply (x3 : Vec Ideal S128x2048 .f32) (k : Fin 128) (l : Fin 128) :
    weightTotal x3 (ix2 k l) = ∑ p : Fin 16, x3 (ix2 k ⟨p.val * 128 + l.val, by omega⟩) := by
  rw [← pieces (fun J => x3 (ix2 k J)) l, weightTotal]
  simp only [addHalvesV_apply]
  rw [cols_apply _ 0 (by norm_num), cols_apply _ 0 (by norm_num), cols_apply _ 256 (by norm_num),
    cols_apply _ 256 (by norm_num), cols_apply _ 512 (by norm_num), cols_apply _ 512 (by norm_num),
    cols_apply _ 768 (by norm_num), cols_apply _ 768 (by norm_num), cols_apply _ 1024 (by norm_num),
    cols_apply _ 1024 (by norm_num), cols_apply _ 1280 (by norm_num), cols_apply _ 1280 (by norm_num),
    cols_apply _ 1536 (by norm_num), cols_apply _ 1536 (by norm_num), cols_apply _ 1792 (by norm_num),
    cols_apply _ 1792 (by norm_num)]
  pointwise

/-- The masked rows: at row `r`, entry `i` is half the example's bit when `i` comes before the position of `r`, and
    zero otherwise. -/
theorem masked_apply (x0 : Vec Ideal S64x128 .f32) (r : Fin 8192) (i : Fin 128) :
    k0_pay7 x0 (ix2 r i) = (if i.val < r.val / 64 then half else 0) * x0 (ix2 ⟨r.val % 64, by omega⟩ i) := by
  pointwise [k0_pay7]
  rw [ofBits_half]
  have hr : r.val / 64 < 128 := by omega
  have hi := i.isLt
  have hc : IntOp.cmpi CmpIPredicate.sgt (BitVec.ofNat 32 (r.val / 64)) (BitVec.ofNat 32 i.val)
      = if i.val < r.val / 64 then 1#1 else 0#1 := by
    rw [show ∀ x y : BitVec 32, IntOp.cmpi .sgt x y = BitVec.ofBool (decide (y.toInt < x.toInt)) from fun _ _ => rfl,
      BitVec.toInt_ofNat', BitVec.toInt_ofNat', Int.bmod_eq_of_le (by omega) (by omega),
      Int.bmod_eq_of_le (by omega) (by omega)]
    by_cases h : i.val < r.val / 64
    · rw [if_pos h, decide_eq_true (by exact_mod_cast h)]; rfl
    · rw [if_neg h, decide_eq_false (by exact_mod_cast h)]; rfl
  rw [hc]
  split <;> simp [Scalar.select]

end Cert.Proof.Chunk

end
-- ==== Proof.BlockValue.lean ====
module

public import proofs.«01_k».proof.Proof.Block
public import proofs.«01_k».proof.Proof.ChunkValue

@[expose] public section

set_option maxRecDepth 65536

noncomputable section

/-! # What one grid point computes, entry by entry -/

namespace Cert.Proof.Block

open Idealize.ShloMosaic Idealize.ShloMosaic.TcCoe Idealize.SL.Sem
open Cert.KernelIdeal Cert.KernelIdeal.Gen Cert.Proof.Chunk Cert.Proof.Algebra

/-- The next activations: the old ones plus half of each bit times its weight. -/
theorem nextAct_apply (x1 : Vec Ideal S1x128x64 .f32) (x2 : Vec Ideal S128x2048 .bf16) (A : Vec Ideal S64x2048 .f32)
    (b : Fin 64) (J : Fin 2048) : nextAct x1 x2 A (ix2 b J)
      = A (ix2 b J) + ∑ k : Fin 128, x1 (ix3 0 k b) * half * x2 (ix2 k J) := by
  pointwise [nextAct, k0_pay2, k0_pay5, k0_pay6]
  rw [ofBits_half]

/-- The first activations: the halved offset for every example. -/
theorem firstAct_apply (x5 : Vec Ideal S1x2048 .f32) (b : Fin 64) (J : Fin 2048) :
    k0_pay3 x5 (ix2 b J) = x5 (ix2 0 J) := by
  pointwise [k0_pay3]

/-- The first result is zero. -/
theorem firstOut_apply (b : Fin 64) : k0_pay4 (F := Ideal) (ix3 0 0 b) = 0 := by
  pointwise [k0_pay4]

/-- The logit of position `k` of the block and example `b`, as the kernel adds it up. -/
def logit (x0 : Vec Ideal S64x128 .f32) (x2 : Vec Ideal S128x2048 .bf16) (x3 : Vec Ideal S128x2048 .f32)
    (x4 : Vec Ideal S1x128x1 .f32) (A : Vec Ideal S64x2048 .f32) (k : Fin 128) (b : Fin 64) : EReal :=
  x4 (ix3 0 k 0) + half * ∑ J : Fin 2048, x3 (ix2 k J)
    + half * ∑ J : Fin 2048, Ideal.tanh (∑ i : Fin 128, (if i < k then half else 0) * x0 (ix2 b i) * x2 (ix2 i J)
        + A (ix2 b J)) * x3 (ix2 k J)

/-- The printed logits are those. -/
theorem logit_printed (x0 : Vec Ideal S64x128 .f32) (x2 : Vec Ideal S128x2048 .bf16) (x3 : Vec Ideal S128x2048 .f32)
    (x4 : Vec Ideal S1x128x1 .f32) (A : Vec Ideal S64x2048 .f32) (k : Fin 128) (b : Fin 64) :
    k0_pay21 (weightHead x3) (prodTotal (k0_pay7 x0) (k0_pay6 x2) A x3) (weightLast x3) x4 (ix2 k b)
      = logit x0 x2 x3 x4 A k b := by
  have hw : ∀ l : Fin 128, weightHead x3 (ix2 k l) + weightLast x3 (ix2 k l)
      = ∑ p : Fin 16, x3 (ix2 k ⟨p.val * 128 + l.val, by omega⟩) := fun l => by
    rw [← weightTotal_apply, ← weight_split]; rfl
  have ht : ∀ (r : Fin 8192) (J : Fin 2048), r.val = k.val * 64 + b.val →
      term (k0_pay7 x0) (k0_pay6 x2) A x3 r J
        = Ideal.tanh (∑ i : Fin 128, (if i < k then half else 0) * x0 (ix2 b i) * x2 (ix2 i J) + A (ix2 b J))
          * x3 (ix2 k J) := fun r J hr => by
    have h1 : (⟨r.val % 64, by omega⟩ : Fin 64) = b := Fin.ext (by show r.val % 64 = b.val; omega)
    have h2 : (⟨r.val / 64, by omega⟩ : Fin 128) = k := Fin.ext (by show r.val / 64 = k.val; omega)
    have h3 : r.val / 64 = k.val := by omega
    unfold term
    simp only [masked_apply, h1, h2, h3, Fin.lt_def]
    pointwise [k0_pay6]
  pointwise [k0_pay21]
  simp only [hw, prodTotal_apply, ofBits_half]
  rw [lanes (fun J => x3 (ix2 k J)), lanes (fun J => term (k0_pay7 x0) (k0_pay6 x2) A x3 ⟨k.val * 64 + b.val, by omega⟩ J)]
  simp only [ht ⟨k.val * 64 + b.val, by omega⟩ _ rfl]
  rfl

/-- The printed last step: the old result plus the log-likelihoods of the block's positions. -/
theorem finish_apply (x1 : Vec Ideal S1x128x64 .f32) (p q : FVec Ideal S128x128 .f32) (t : FVec Ideal S8192x128 .bf16)
    (x4 : Vec Ideal S1x128x1 .f32) (o : Vec Ideal S1x1x64 .f32) (b : Fin 64) :
    finish x1 p q t x4 o (ix3 0 0 b)
      = o (ix3 0 0 b) + ∑ k : Fin 128, bitLik (x1 (ix3 0 k b)) (k0_pay21 p t q x4 (ix2 k b)) := by
  pointwise [finish, k0_pay1, k0_pay22, k0_pay23, k0_pay24, k0_pay25, k0_pay26, k0_pay27, k0_pay5]
  simp [bitLik, logSig]

/-- The next result: the old one plus the log-likelihoods of the block's positions. -/
theorem nextOut_apply (x0 : Vec Ideal S64x128 .f32) (x1 : Vec Ideal S1x128x64 .f32) (x2 : Vec Ideal S128x2048 .bf16)
    (x3 : Vec Ideal S128x2048 .f32) (x4 : Vec Ideal S1x128x1 .f32) (A : Vec Ideal S64x2048 .f32)
    (o : Vec Ideal S1x1x64 .f32) (b : Fin 64) : nextOut x0 x1 x2 x3 x4 A o (ix3 0 0 b)
      = o (ix3 0 0 b) + ∑ k : Fin 128, bitLik (x1 (ix3 0 k b)) (logit x0 x2 x3 x4 A k b) := by
  rw [nextOut, finish_apply]
  simp only [logit_printed]

/-- With halved activations and real output weights, a block's logit is the bias plus the logistic activations times
    the output weights. -/
theorem logit_value (x0 : Vec Ideal S64x128 .f32) (x2 : Vec Ideal S128x2048 .bf16) (x3 : Vec Ideal S128x2048 .f32)
    (x4 : Vec Ideal S1x128x1 .f32) (A : Vec Ideal S64x2048 .f32) (k : Fin 128) (b : Fin 64) (z : Fin 2048 → EReal)
    (hA : ∀ J, A (ix2 b J) = half * z J) (hV : ∀ J, ∃ v : ℝ, x3 (ix2 k J) = (v : EReal)) :
    logit x0 x2 x3 x4 A k b = x4 (ix3 0 k 0) + ∑ J : Fin 2048,
      Ideal.logistic (z J + ∑ i : Fin 128, if i < k then x0 (ix2 b i) * x2 (ix2 i J) else 0) * x3 (ix2 k J) := by
  rw [← logit_eq Finset.univ _ _ (fun J => x3 (ix2 k J)) hV, logit]
  simp only [hA, mul_assoc, masked_sum k (fun i => x0 (ix2 b i) * x2 (ix2 i _)), half_add, add_comm (half * z _)]

end Cert.Proof.Block

end
-- ==== Proof.KernelInputs.lean ====
module

public import proofs.«01_k».proof.Defs
public import proofs.«01_k».proof.Proof.Gen.KernelIdeal.Frame
public import proofs.«01_k».proof.Proof.Algebra
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

/-! # The blocks that a grid point reads, in terms of the arguments

Point `t` handles the positions `128 * t .. 128 * t + 127`. -/

namespace Cert.Proof.KernelInputs

open Idealize.ShloMosaic Idealize.ShloMosaic.TcCoe Idealize.SL.Sem
open Cert.KernelIdeal Cert.KernelIdeal.Gen Cert.Proof.Algebra

variable (m : (b : Loc nD τ sig) → Buf (Elt Ideal) b) (c : Dev nD)

/-- The position that a block's row `k` at point `t` stands for. -/
def pos (t : Fin cfg0.N) (k : Fin 128) : Fin 4096 := ⟨t.val * 128 + k.val, by have h := lt_of_lt_of_eq t.isLt N_0; omega⟩

/-- Where the windows' blocks lie. -/
theorem idx : ∀ t : Fin cfg0.N, win0_0.index t = ![0, t.val] ∧ win0_1.index t = ![0, t.val, 0]
    ∧ win0_2.index t = ![t.val, 0] ∧ win0_3.index t = ![t.val, 0] ∧ win0_4.index t = ![t.val, 0, 0]
    ∧ win0_5.index t = ![0, 0] :=
  (by decide +kernel : ∀ t : Fin grid0.N, _)

/-- The transposed bits that the host lines leave. -/
theorem host_bitsT (k : Fin 4096) (b : Fin 64) :
    V (F := Ideal) m c main_v2 (ix3 0 k b) = m ((c : Thread nD τ).loc main_arg0) (ix2 b k) := by
  show StableHlo.after hostOps0 (fun b => m (c, b)) (Proc.devRef .tc main_v2) (ix3 0 k b) = _
  after_reads_simp
  pointwise

/-- The transposed weights that the host lines leave. -/
theorem host_weights (k : Fin 4096) (J : Fin 2048) :
    V (F := Ideal) m c main_v4 (ix2 k J) = m ((c : Thread nD τ).loc main_arg1) (ix2 J k) := by
  show StableHlo.after hostOps0 (fun b => m (c, b)) (Proc.devRef .tc main_v4) (ix2 k J) = _
  after_reads_simp
  pointwise

/-- The biases, in 32 blocks. -/
theorem host_bias (t : Fin 32) (k : Fin 128) :
    V (F := Ideal) m c main_v8 (ix3 t k 0)
      = m ((c : Thread nD τ).loc main_arg4) (ix1 ⟨t.val * 128 + k.val, by omega⟩) := by
  show StableHlo.after hostOps0 (fun b => m (c, b)) (Proc.devRef .tc main_v8) (ix3 t k 0) = _
  after_reads_simp
  pointwise

/-- The halved offset that the host lines leave. -/
theorem host_offset (J : Fin 2048) :
    V (F := Ideal) m c main_v7 (ix2 0 J) = half * m ((c : Thread nD τ).loc main_arg2) (ix1 J) := by
  show StableHlo.after hostOps0 (fun b => m (c, b)) (Proc.devRef .tc main_v7) (ix2 0 J) = _
  after_reads_simp
  pointwise
  rw [ofBits_half]

/-- The examples' bits. -/
theorem bits (t : Fin cfg0.N) (b : Fin 64) (k : Fin 128) :
    iblk (F := Ideal) m c 0 t (ix2 b k) = m ((c : Thread nD τ).loc main_arg0) (ix2 b (pos t k)) := by
  blk_ext! [iblk, V, idx t, pos]

/-- The transposed bits. -/
theorem bitsT (t : Fin cfg0.N) (b : Fin 64) (k : Fin 128) :
    iblk (F := Ideal) m c 1 t (ix3 0 k b) = m ((c : Thread nD τ).loc main_arg0) (ix2 b (pos t k)) := by
  rw [← host_bitsT m c]
  blk_ext [iblk, idx t, pos]

/-- The weights. -/
theorem weights (t : Fin cfg0.N) (k : Fin 128) (J : Fin 2048) :
    iblk (F := Ideal) m c 2 t (ix2 k J) = m ((c : Thread nD τ).loc main_arg1) (ix2 J (pos t k)) := by
  rw [← host_weights m c]
  blk_ext [iblk, idx t, pos]

/-- The output weights. -/
theorem outWeights (t : Fin cfg0.N) (k : Fin 128) (J : Fin 2048) :
    iblk (F := Ideal) m c 3 t (ix2 k J) = m ((c : Thread nD τ).loc main_arg3) (ix2 (pos t k) J) := by
  blk_ext! [iblk, V, idx t, pos]

/-- The biases. -/
theorem bias (t : Fin cfg0.N) (k : Fin 128) :
    iblk (F := Ideal) m c 4 t (ix3 0 k 0) = m ((c : Thread nD τ).loc main_arg4) (ix1 (pos t k)) := by
  refine Eq.trans ?_ (host_bias m c ⟨t.val, lt_of_lt_of_eq t.isLt N_0⟩ k)
  blk_ext [iblk, idx t]

/-- The halved offset. -/
theorem offset (t : Fin cfg0.N) (J : Fin 2048) :
    iblk (F := Ideal) m c 5 t (ix2 0 J) = half * m ((c : Thread nD τ).loc main_arg2) (ix1 J) := by
  rw [← host_offset m c]
  blk_ext [iblk, idx t]

end Cert.Proof.KernelInputs

end
-- ==== Proof.Spec.lean ====
module

public import proofs.«01_k».proof.Proof.Algebra

@[expose] public section

noncomputable section

/-! # The likelihood as one formula

Both programs are read as the formula of this file: position `n` sees the bits before it through a prefix sum. -/

namespace Cert.Proof.Spec

open Idealize.ShloMosaic Cert.Proof.Algebra

/-- The sum of the first `n` of 4096 numbers. -/
def upto (f : Fin 4096 → EReal) (n : ℕ) : EReal := ∑ i ∈ Finset.range n, if h : i < 4096 then f ⟨i, h⟩ else 0

/-- The sum of none of them is zero. -/
theorem upto_zero (f : Fin 4096 → EReal) : upto f 0 = 0 := by simp [upto]

/-- One more number. -/
theorem upto_succ (f : Fin 4096 → EReal) (n : ℕ) (h : n < 4096) : upto f (n + 1) = upto f n + f ⟨n, h⟩ := by
  rw [upto, Finset.sum_range_succ, dif_pos h]; rfl

/-- All of them. -/
theorem upto_all (f : Fin 4096 → EReal) : upto f 4096 = ∑ i : Fin 4096, f i := by
  rw [upto, ← Fin.sum_univ_eq_sum_range (fun i => if h : i < 4096 then f ⟨i, h⟩ else 0) 4096]
  exact Finset.sum_congr rfl fun i _ => dif_pos i.isLt

/-- A prefix that ends inside a block of 128 is the prefix up to the block, plus the block's numbers before its end. -/
theorem upto_block (f : Fin 4096 → EReal) (s k : ℕ) (hk : k ≤ 128) (hs : s + 128 ≤ 4096) :
    upto f (s + k) = upto f s + ∑ j : Fin 128, if j.val < k then f ⟨s + j.val, by omega⟩ else 0 := by
  rw [upto, Finset.sum_range_add, ← upto]
  congr 1
  have e : ∀ j : Fin 128, (if j.val < k then f ⟨s + j.val, by omega⟩ else 0)
      = (fun i => if i < k then (if h : s + i < 4096 then f ⟨s + i, h⟩ else 0) else 0) j.val := fun j => by
    show _ = if j.val < k then (if h : s + j.val < 4096 then f ⟨s + j.val, h⟩ else 0) else 0
    rw [dif_pos (by omega)]
  rw [Finset.sum_congr rfl fun j _ => e j,
    Fin.sum_univ_eq_sum_range (fun i => if i < k then (if h : s + i < 4096 then f ⟨s + i, h⟩ else 0) else 0) 128,
    ← Finset.sum_filter]
  refine Finset.sum_congr ?_ fun _ _ => rfl
  ext i
  simp only [Finset.mem_range, Finset.mem_filter]
  omega

/-- A whole block of 128 more numbers. -/
theorem upto_add (f : Fin 4096 → EReal) (s : ℕ) (hs : s + 128 ≤ 4096) :
    upto f (s + 128) = upto f s + ∑ j : Fin 128, f ⟨s + j.val, by omega⟩ := by
  rw [upto_block f s 128 le_rfl hs]
  congr 1

section
variable (x : (⟨2, ![64, 4096]⟩ : Shape).Idx → EReal) (W : (⟨2, ![2048, 4096]⟩ : Shape).Idx → EReal)
  (c : (⟨1, ![2048]⟩ : Shape).Idx → EReal) (V : (⟨2, ![4096, 2048]⟩ : Shape).Idx → EReal)
  (β : (⟨1, ![4096]⟩ : Shape).Idx → EReal)

/-- What the bits before position `n` of example `b` add to hidden unit `J`. -/
def seen (n : ℕ) (b : Fin 64) (J : Fin 2048) : EReal := upto (fun i => x (ix2 b i) * W (ix2 J i)) n

/-- The logit of position `n` and example `b`. -/
def logit (n : Fin 4096) (b : Fin 64) : EReal :=
  β (ix1 n) + ∑ J : Fin 2048, Ideal.logistic (c (ix1 J) + seen x W n.val b J) * V (ix2 n J)

/-- The log-likelihood of the first `n` positions of example `b`. -/
def lik (n : ℕ) (b : Fin 64) : EReal := upto (fun i => bitLik (x (ix2 b i)) (logit x W c V β i b)) n

end

end Cert.Proof.Spec

end
-- ==== Proof.KernelFold.lean ====
module

public import proofs.«01_k».proof.Proof.BlockValue
public import proofs.«01_k».proof.Proof.KernelInputs
public import proofs.«01_k».proof.Proof.Spec

@[expose] public section

set_option maxRecDepth 16384

noncomputable section

/-! # What the kernel holds after each grid point

By induction over the 32 points: the carried activations are half of the offset plus what has been seen, and the result
is the log-likelihood of the positions handled so far. -/

namespace Cert.Proof.KernelFold

open Idealize.ShloMosaic Idealize.ShloMosaic.TcCoe Idealize.SL.Sem
open Cert.KernelIdeal Cert.KernelIdeal.Gen Cert.Proof.Algebra Cert.Proof.Block Cert.Proof.KernelInputs Cert.Proof.Spec

variable (m : (b : Loc nD τ sig) → Buf (Elt Ideal) b) (c : Dev nD)

/-- The bits. -/
abbrev X : Vec Ideal S64x4096 .f32 := m ((c : Thread nD τ).loc main_arg0)
/-- The weights. -/
abbrev Wt : Vec Ideal S2048x4096 .f32 := m ((c : Thread nD τ).loc main_arg1)
/-- The offset. -/
abbrev C : Vec Ideal S2048 .f32 := m ((c : Thread nD τ).loc main_arg2)
/-- The output weights. -/
abbrev U : Vec Ideal S4096x2048 .f32 := m ((c : Thread nD τ).loc main_arg3)
/-- The biases. -/
abbrev B : Vec Ideal S4096 .f32 := m ((c : Thread nD τ).loc main_arg4)

/-- Half of the offset plus what the first `n` bits add. -/
def actAt (n : ℕ) (b : Fin 64) (J : Fin 2048) : EReal := half * (C m c (ix1 J) + seen (X m c) (Wt m c) n b J)

/-- One grid point's activations: if it found those before its block, it leaves those after its block. -/
theorem act_step (t : Fin cfg0.N) (A : Vec Ideal S64x2048 .f32)
    (hA : ∀ b J, A (ix2 b J) = actAt m c (t.val * 128) b J) (b : Fin 64) (J : Fin 2048) :
    nextAct (iblk (F := Ideal) m c 1 t) (iblk (F := Ideal) m c 2 t) A (ix2 b J) = actAt m c (t.val * 128 + 128) b J := by
  have ht := lt_of_lt_of_eq t.isLt N_0
  rw [nextAct_apply, hA, actAt, actAt, seen, seen, upto_add _ _ (by omega), ← add_assoc,
    half_add (_ + _) (∑ _, _), half_sum]
  congr 1
  refine Finset.sum_congr rfl fun k _ => ?_
  rw [bitsT, weights, mul_comm _ half, mul_assoc]
  rfl

/-- One grid point's result: if it found the activations before its block and the likelihood so far, it leaves the
    likelihood with its block's positions. -/
theorem out_step (hU : ∀ i, ∃ v : ℝ, U m c i = (v : EReal)) (t : Fin cfg0.N) (A : Vec Ideal S64x2048 .f32)
    (o : Vec Ideal S1x1x64 .f32) (hA : ∀ b J, A (ix2 b J) = actAt m c (t.val * 128) b J)
    (ho : ∀ b, o (ix3 0 0 b) = lik (X m c) (Wt m c) (C m c) (U m c) (B m c) (t.val * 128) b) (b : Fin 64) :
    nextOut (iblk (F := Ideal) m c 0 t) (iblk (F := Ideal) m c 1 t) (iblk (F := Ideal) m c 2 t)
      (iblk (F := Ideal) m c 3 t) (iblk (F := Ideal) m c 4 t) A o (ix3 0 0 b)
      = lik (X m c) (Wt m c) (C m c) (U m c) (B m c) (t.val * 128 + 128) b := by
  have ht := lt_of_lt_of_eq t.isLt N_0
  rw [nextOut_apply, ho, lik, lik, upto_add _ _ (by omega)]
  congr 1
  refine Finset.sum_congr rfl fun k _ => ?_
  rw [bitsT]
  have e : Block.logit (iblk (F := Ideal) m c 0 t) (iblk (F := Ideal) m c 2 t) (iblk (F := Ideal) m c 3 t)
      (iblk (F := Ideal) m c 4 t) A k b = Spec.logit (X m c) (Wt m c) (C m c) (U m c) (B m c) (pos t k) b := by
    rw [logit_value _ _ _ _ _ k b _ (fun J => hA b J) (fun J => by rw [outWeights]; exact hU _), bias, Spec.logit]
    congr 1
    refine Finset.sum_congr rfl fun J _ => ?_
    rw [outWeights, add_assoc]
    congr 3
    rw [seen, seen, show (pos t k).val = t.val * 128 + k.val from rfl, upto_block _ _ _ (by omega) (by omega)]
    congr 1
    refine Finset.sum_congr rfl fun i _ => ?_
    rw [bits, weights]
    rfl
  rw [e]
  rfl

/-- After point `n`: the likelihood of the positions handled so far, and half the activations for the next block. -/
theorem fold (hU : ∀ i, ∃ v : ℝ, U m c i = (v : EReal)) : ∀ (n : ℕ) (hn : n < cfg0.N),
    (∀ b, (outsAt0 m c n hn).1 (ix3 0 0 b) = lik (X m c) (Wt m c) (C m c) (U m c) (B m c) (n * 128 + 128) b)
      ∧ ∀ b J, (outsAt0 m c n hn).2 (ix2 b J) = actAt m c (n * 128 + 128) b J
  | 0, hn => by
    have h := outsAt0_A m c ⟨0, hn⟩ rfl
    rw [out_A, sout_A] at h
    have hA : ∀ b J, k0_pay3 (iblk (F := Ideal) m c 5 ⟨0, hn⟩) (ix2 b J) = actAt m c (0 * 128) b J := fun b J => by
      rw [firstAct_apply, offset, actAt, seen, Nat.zero_mul, upto_zero, add_zero]
    rw [h]
    exact ⟨out_step m c hU ⟨0, hn⟩ _ _ hA fun b => by rw [firstOut_apply, lik, Nat.zero_mul, upto_zero],
      act_step m c ⟨0, hn⟩ _ hA⟩
  | n + 1, hn => by
    have hb := lt_of_lt_of_eq hn N_0
    have ih := fold hU n (Nat.lt_of_succ_lt hn)
    have h := outsAt0_B m c ⟨n + 1, hn⟩ (by show ¬ (n + 1) % 32 = 0; omega)
    rw [out_B, sout_B] at h
    have e : n * 128 + 128 = (n + 1) * 128 := by omega
    rw [e] at ih
    rw [h]
    exact ⟨out_step m c hU ⟨n + 1, hn⟩ _ _ ih.2 ih.1, act_step m c ⟨n + 1, hn⟩ _ ih.2⟩

end Cert.Proof.KernelFold

end
-- ==== Proof.KernelRun.lean ====
module

public import proofs.«01_k».proof.Proof.KernelFold

@[expose] public section

set_option maxRecDepth 16384

noncomputable section

/-! # The kernel's run, with its result named -/

namespace Cert.Proof.KernelRun

open Idealize.ShloMosaic Idealize.ShloMosaic.TcCoe Idealize.SL.Sem
open Cert.KernelIdeal Cert.KernelIdeal.Gen Cert.Proof.KernelFold Cert.Proof.Spec

variable (m : (b : Loc nD τ sig) → Buf (Elt Ideal) b) (ρ : Dev nD → PrngReg)

/-- The last grid point is a grid point. -/
theorem last_lt : 31 < cfg0.N := lt_of_lt_of_eq (by decide) N_0.symm

/-- The output's block is the whole array at every point. -/
theorem out_idx : ∀ t : Fin cfg0.N, win0_6.index t = ![0, 0, 0] := (by decide +kernel : ∀ t : Fin grid0.N, _)

/-- The kernel's output array ends at what the last grid point leaves. -/
theorem array (c : Dev nD) : (dats (F := Ideal) m 0 c).arrAt 6 cfg0.N = (outsAt0 m c 31 last_lt).1 := by
  refine (dats (F := Ideal) m 0 c).arrAt_eq_of_covers 6 _ (by decide +kernel) fun t hf y => ?_
  have ht : t = ⟨31, last_lt⟩ := by
    have h := (flush0_6 t).mp hf
    have hb := lt_of_lt_of_eq t.isLt N_0
    exact Fin.ext (by show t.val = 31; omega)
  have e : (outsAt0 (F := Ideal) m c t.val t.isLt).1 = (outsAt0 m c 31 last_lt).1 := by subst ht; rfl
  blk_simp
  rw [after0_6, e]
  blk_ext [out_idx t]

/-- The reshaped result, from the array. -/
theorem tail (c : Dev nD) :
    Pipeline.afterTail₀ cfgs (dats (F := Ideal) m) 0 (V0 m) [hostOps1] c main_v10
      = shapeCast S64 ((dats (F := Ideal) m 0 c).arrAt 6 cfg0.N) shapeCasts_S1x1x64_S64 := by
  unfold Pipeline.afterTail₀
  show StableHlo.after hostOps1 _ (Proc.devRef .tc main_v10) = _
  after_reads_simp
  exact congrArg (fun Y => shapeCast S64 Y shapeCasts_S1x1x64_S64)
    (Pipeline.withArrays_arr spec0 (by decide) c (V0 m c) (fun w => (dats (F := Ideal) m 0 c).arrAt w cfg0.N) 6)

/-- The kernel's result: the log-likelihood of all positions, for every example. -/
def result (c : Dev nD) : Vec Ideal S64 .f32 :=
  fun i => lik (X m c) (Wt m c) (C m c) (U m c) (B m c) 4096 (i 0)

/-- With real output weights the reshaped array is that result. -/
theorem result_eq (c : Dev nD) (hU : ∀ i, ∃ v : ℝ, U m c i = (v : EReal)) :
    shapeCast S64 ((dats (F := Ideal) m 0 c).arrAt 6 cfg0.N) shapeCasts_S1x1x64_S64 = result m c := by
  rw [array]
  funext i
  idx_vars i
  pointwise
  exact (KernelFold.fold m c hU 31 last_lt).1 _

/-- With real output weights the kernel ends with that result and leaves its arguments unchanged. -/
theorem run (hU : ∀ (c : Dev nD) i, ∃ v : ℝ, U m c i = (v : EReal)) :
    θ_run (defs (F := Ideal)) (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨h.1 c, h.2 c⟩) (θ_run_and
    ((θ_run (defs (F := Ideal)) _ _).mono (fun r (h : Pipeline.FramePost _ _ _ _ r) c =>
      ((h c).2 main_v10 (Pipeline.mem_restRefs_of main_v10 (by decide) (by decide))).trans
        ((tail m c).trans (result_eq m c (hU c)))) (run_main m ρ))
    (unchanged m ρ))

end Cert.Proof.KernelRun

end
-- ==== Proof.RefRun.lean ====
/-
  The reference program's run: its arguments end unchanged, its semaphores at zero, and its result is the host's
  sum over the visible units of `x · log_sigmoid l + (1 - x) · log_sigmoid (-l)`, with `l` the array of logits the loop
  leaves after 4096 trips.
-/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Lib.StableHlo.RunRead

@[expose] public section

set_option maxRecDepth 8192

noncomputable section

namespace Cert.Proof.RefRun

open Idealize.ShloMosaic Idealize.ShloMosaic.StableHlo Idealize.SL.Sem
open Cert.ReferenceIdeal Cert.ReferenceIdeal.Gen Cert.ReferenceIdeal.Value

variable {F : FTy → Type} [FloatOps F] [∀ φ, Inhabited (F φ)]
variable (m : (ℓ : Loc nD τ sig) → Buf (Elt F) ℓ)

/-- The five argument arrays. -/
abbrev args : List (Ref sig .tc) := [main_arg0, main_arg1, main_arg2, main_arg3, main_arg4]

/-- The operations before the loop write no argument. -/
theorem pre_arg (X : Valuation τ sig (Elt F)) (r : Ref sig .tc) (hr : r ∈ args) :
    afterL preI X (Proc.devRef .tc r) = X (Proc.devRef .tc r) :=
  after_of_writes_sub hostOps0 X hostOps0_writes (by revert r; decide)

/-- The loop's condition writes no argument. -/
theorem cond_arg (X : Valuation τ sig (Elt F)) (r : Ref sig .tc) (hr : r ∈ args) :
    after condOps X (Proc.devRef .tc r) = X (Proc.devRef .tc r) :=
  after_of_writes_sub condOps X condOps_writes (by revert r; decide)

/-- The loop's body writes no argument. -/
theorem body_arg (X : Valuation τ sig (Elt F)) (r : Ref sig .tc) (hr : r ∈ args) :
    afterL bodyI X (Proc.devRef .tc r) = X (Proc.devRef .tc r) := by
  simp only [bodyI, afterL_cons, afterL_nil]
  rw [after_of_writes_sub while0Ops0_6 _ while0Ops0_6_writes (by revert r; decide),
    after_of_writes_sub while0Ops0_5 _ while0Ops0_5_writes (by revert r; decide),
    after_of_writes_sub while0Ops0_4 _ while0Ops0_4_writes (by revert r; decide),
    after_of_writes_sub while0Ops0_3 _ while0Ops0_3_writes (by revert r; decide),
    after_of_writes_sub while0Ops0_2 _ while0Ops0_2_writes (by revert r; decide),
    after_of_writes_sub while0Ops0_1 _ while0Ops0_1_writes (by revert r; decide),
    after_of_writes_sub while0Ops0 _ while0Ops0_writes (by revert r; decide)]

/-- Before every trip the arguments are what the program started with. -/
theorem trip_arg (c : Dev nD) (r : Ref sig .tc) (hr : r ∈ args) :
    ∀ k, atK m k c (Proc.devRef .tc r) = m (c, Proc.devRef .tc r)
  | 0 => pre_arg _ r hr
  | k + 1 => (body_arg _ r hr).trans ((cond_arg _ r hr).trans (trip_arg c r hr k))

/-- The operations after the loop write no argument. -/
theorem post_arg (X : Valuation τ sig (Elt F)) (r : Ref sig .tc) (hr : r ∈ args) :
    afterL postI X (Proc.devRef .tc r) = X (Proc.devRef .tc r) := by
  fin_cases hr <;> (simp only [postI, afterL_cons, afterL_nil]; after_reads_simp)

/-- An argument array at the program's end. -/
theorem final_arg (c : Dev nD) (r : Ref sig .tc) (hr : r ∈ args) :
    finalContents condOps preI bodyI postI 4096 m c (Proc.devRef .tc r) = m (c, Proc.devRef .tc r) :=
  (post_arg _ r hr).trans ((cond_arg _ r hr).trans (trip_arg m c r hr 4096))

/-- `log_sigmoid` of an array as the reference's operations compute it: minus the soft-plus of minus its argument, a value
    that differs from itself being passed through. -/
def hostLogSigmoid (l : FVec F S64x4096 .f32) : FVec F S64x4096 .f32 :=
  let z := Host.negf l
  let zero : FVec F S64x4096 .f32 := broadcastInDim S64x4096 ![] bcast_S_S64x4096 (constant S_ .f32 0x00000000#32)
  Host.negf (select (cmpf .une (subf z zero) (subf z zero)) (addf z zero)
    (addf (maximumf z zero) (Host.log1p (Host.exp (Host.negf (Host.absf (subf z zero)))))))

/-- What the operations after the loop leave in the result, of the inputs `x` and the loop's logits. -/
def hostResult (x : FVec F S64x4096 .f32) (logits : FVec F S4096x64 .f32) : FVec F S64 .f32 :=
  let l : FVec F S64x4096 .f32 := transpose S64x4096 [1, 0] logits transposes_S4096x64_S64x4096_1_0
  let one : FVec F S64x4096 .f32 := broadcastInDim S64x4096 ![] bcast_S_S64x4096 (constant S_ .f32 0x3F800000#32)
  Host.reduceAdd (addf (mulf x (hostLogSigmoid l)) (mulf (subf one x) (hostLogSigmoid (Host.negf l))))
    (constant S_ .f32 0x00000000#32) reducesTo_S64x4096_S64_d1 h_S_

/-- The result after the operations that follow the loop. -/
theorem post_result (X : Valuation τ sig (Elt F)) :
    afterL postI X (Proc.devRef .tc main_v14)
      = hostResult (X (Proc.devRef .tc main_arg0)) (X (Proc.devRef .tc main_v4_7)) := by
  simp only [postI, afterL_cons, afterL_nil]
  after_reads_simp
  rfl

/-- The result at the program's end, of the loop's logits. -/
theorem final_result (c : Dev nD) :
    finalContents condOps preI bodyI postI 4096 m c (Proc.devRef .tc main_v14)
      = hostResult (m (c, Proc.devRef .tc main_arg0)) (STEP^[4096] (entryContents preI m c) (Proc.devRef .tc main_v4_7)) := by
  refine (post_result _).trans ?_
  rw [cond_arg _ main_arg0 (by decide), cond_keeps _ main_v4_7 (by decide)]
  exact congrArg₂ hostResult (trip_arg m c main_arg0 (by decide) 4096) (atK_agree m c 4096 main_v4_7 (by decide))

/-- The reference's run: every argument unchanged, the result as `final_result` names it, every semaphore at zero. -/
theorem run (ρ : Dev nD → PrngReg) :
    θ_run (defs (F := F)) (onTc (τ := τ) (main (F := F))) ⟨m, fun _ => 0, ρ⟩ fun r =>
      (∀ c : Dev nD,
        r.2.mem ((c.tc : Thread nD τ).loc main_v14) = hostResult (m ((c.tc : Thread nD τ).loc main_arg0))
            (STEP^[4096] (entryContents preI m c) (Proc.devRef .tc main_v4_7))
        ∧ ∀ a ∈ args, r.2.mem ((c.tc : Thread nD τ).loc a) = m ((c.tc : Thread nD τ).loc a))
      ∧ r.2.sem = fun _ => 0 :=
  (θ_run defs _ _).mono (fun r h => ⟨fun c => ⟨(h c main_v14 (by decide)).trans (final_result m c),
      fun a ha => (h c a (by revert a; decide)).trans (final_arg m c a ha)⟩,
    Idealize.ShloMosaic.sem_eq_zero_of_no_sems (by decide) r.2⟩) (run_fold m ρ)

end Cert.Proof.RefRun

end
-- ==== Proof.RefStep.lean ====
/-
  One position of the reference's loop, over the extended reals: what the carried arrays hold after it, entry by entry, of
  what they held before.
-/
module

public import proofs.«01_k».proof.Proof.RefRun
public import proofs.«01_k».proof.Proof.Spec
public import Idealize.ShloMosaic.Lib.Pointwise
public import Idealize.ShloMosaic.Lib.WordCmp

@[expose] public section

set_option maxRecDepth 8192

noncomputable section

namespace Cert.Proof.RefStep

open Idealize.ShloMosaic Idealize.ShloMosaic.StableHlo Idealize.ShloMosaic.WordCmp
open Cert.ReferenceIdeal Cert.ReferenceIdeal.Gen Cert.ReferenceIdeal.Value

variable (Y : Valuation τ sig (Elt Ideal))

/-- The weights into the hidden units, a row per position. -/
abbrev wt : FVec Ideal S4096x2048 .f32 := Y (Proc.devRef .tc main_v4_0)
/-- The weights out of the hidden units, a row per position. -/
abbrev vt : FVec Ideal S4096x2048 .f32 := Y (Proc.devRef .tc main_v4_1)
/-- The offsets of the positions. -/
abbrev off : FVec Ideal S4096 .f32 := Y (Proc.devRef .tc main_v4_2)
/-- The bits, a row per position. -/
abbrev bits : FVec Ideal S4096x64 .f32 := Y (Proc.devRef .tc main_v4_3)
/-- The biases of the hidden units. -/
abbrev bias : FVec Ideal S2048 .f32 := Y (Proc.devRef .tc main_v4_4)
/-- The activations the positions so far have added up to. -/
abbrev act : FVec Ideal S64x2048 .f32 := Y (Proc.devRef .tc main_v4_6)
/-- The logits, a row per position. -/
abbrev lgt : FVec Ideal S4096x64 .f32 := Y (Proc.devRef .tc main_v4_7)

/-- Position `k`, as a word read back, is `k`. -/
theorem start_eq (k : ℕ) (hk : k < 4096) : (BitVec.ofNat 32 k).toInt = (k : Int) :=
  toInt_ofNat_of_lt (by norm_num; omega)

/-- The row starts the loop's counter gives. -/
theorem starts (k : ℕ) (hk : k < 4096) (a : Fin 2) :
    (((![fun _ => BitVec.ofNat 32 k, constantI S_ 32 0#32] : Fin 2 → (⟨S_, .i32⟩ : BufTy).Contents (Elt Ideal))) a
      (Shape.Idx.first h_S_)).toInt = (((![k, 0] : Fin 2 → ℕ) a : ℕ) : Int) := by
  match a with
  | 0 => exact start_eq k hk
  | 1 => rfl

/-- The one start the loop's counter gives for a vector. -/
theorem starts1 (k : ℕ) (hk : k < 4096) (a : Fin 1) :
    (((![fun _ => BitVec.ofNat 32 k] : Fin 1 → (⟨S_, .i32⟩ : BufTy).Contents (Elt Ideal))) a
      (Shape.Idx.first h_S_)).toInt = (((![k] : Fin 1 → ℕ) a : ℕ) : Int) := by
  match a with
  | 0 => exact start_eq k hk

/-- Row `k` of a 4096 × 2048 array. -/
theorem fits2048 (k : ℕ) (hk : k < 4096) : S4096x2048.Slices ![k, 0] S1x2048 :=
  ⟨rfl, fun a => match a with
    | 0 => show k + 1 ≤ 4096 by omega
    | 1 => show 0 + 2048 ≤ 2048 by omega⟩

/-- Row `k` of a 4096 × 64 array. -/
theorem fits64 (k : ℕ) (hk : k < 4096) : S4096x64.Slices ![k, 0] S1x64 :=
  ⟨rfl, fun a => match a with
    | 0 => show k + 1 ≤ 4096 by omega
    | 1 => show 0 + 64 ≤ 64 by omega⟩

/-- Entry `k` of a vector of 4096. -/
theorem fits1 (k : ℕ) (hk : k < 4096) : S4096.Slices ![k] S1 :=
  ⟨rfl, fun a => match a with
    | 0 => show k + 1 ≤ 4096 by omega⟩

/-- The activations' operations, read at an entry. -/
theorem activation_read (a : FVec Ideal S64x2048 .f32) (x : FVec Ideal S4096x64 .f32) (w : FVec Ideal S4096x2048 .f32)
    (k : ℕ) (hk : k < 4096) (b : Fin 64) (J : Fin 2048) :
    addf a (mulf
      (broadcastInDim S64x2048 ![0, 1] bcast_S64x1_S64x2048_0_1 (broadcastInDim S64x1 ![0] bcast_S64_S64x1_0
        (shapeCast S64 (extractStridedSlice S1x64 ![k, 0] x (fits64 k hk)) shapeCasts_S1x64_S64)))
      (broadcastInDim S64x2048 ![0, 1] bcast_S1x2048_S64x2048_0_1 (broadcastInDim S1x2048 ![1] bcast_S2048_S1x2048_1
        (shapeCast S2048 (extractStridedSlice S1x2048 ![k, 0] w (fits2048 k hk)) shapeCasts_S1x2048_S2048)))) (ix2 b J)
      = a (ix2 b J) + x (ix2 ⟨k, hk⟩ b) * w (ix2 ⟨k, hk⟩ J) := by
  pointwise

/-- The sigmoid's operations, over the biased activations. -/
def gate (c : FVec Ideal S2048 .f32) (a : FVec Ideal S64x2048 .f32) : FVec Ideal S64x2048 .f32 :=
  Host.divf (broadcastInDim S64x2048 ![] bcast_S_S64x2048 (constant S_ .f32 0x3F800000#32))
    (addf (broadcastInDim S64x2048 ![] bcast_S_S64x2048 (constant S_ .f32 0x3F800000#32))
      (Host.exp (Host.negf (addf (broadcastInDim S64x2048 ![0, 1] bcast_S1x2048_S64x2048_0_1
        (broadcastInDim S1x2048 ![1] bcast_S2048_S1x2048_1 c)) a))))

/-- They are the sigmoid of the bias plus the activation. -/
theorem gate_read (c : FVec Ideal S2048 .f32) (a : FVec Ideal S64x2048 .f32) (b : Fin 64) (J : Fin 2048) :
    gate c a (ix2 b J) = Ideal.logistic (c (ix1 J) + a (ix2 b J)) := by
  pointwise [gate]
  rfl

/-- A row of logits, read at an entry. -/
theorem logit_read (o : FVec Ideal S4096 .f32) (h : FVec Ideal S64x2048 .f32) (v : FVec Ideal S4096x2048 .f32)
    (k : ℕ) (hk : k < 4096) (b : Fin 64) :
    addf (broadcastInDim S64 ![] bcast_S_S64 (shapeCast S_ (extractStridedSlice S1 ![k] o (fits1 k hk)) shapeCasts_S1_S_))
      (Host.dotGeneral dot_S64x2048_S2048_S64_1_0_0_n_n_n none h
        (shapeCast S2048 (extractStridedSlice S1x2048 ![k, 0] v (fits2048 k hk)) shapeCasts_S1x2048_S2048)) (ix1 b)
      = o (ix1 ⟨k, hk⟩) + ∑ J : Fin 2048, h (ix2 b J) * v (ix2 ⟨k, hk⟩ J) := by
  pointwise

/-- Row `k` replaced. -/
theorem row_read (l : FVec Ideal S4096x64 .f32) (r : FVec Ideal S64 .f32) (k : ℕ) (hk : k < 4096) (n : Fin 4096) (b : Fin 64) :
    updateSlice l (broadcastInDim S1x64 ![1] bcast_S64_S1x64_1 r) ![k, 0] (fits64 k hk) (ix2 n b)
      = if n.val = k then r (ix1 b) else l (ix2 n b) := by
  pointwise
  exact if_congr (by omega) rfl rfl

/-- The counter goes up by one. -/
theorem counter (k : ℕ) (hY : Y (Proc.devRef .tc main_v4_5) = fun _ => BitVec.ofNat 32 k) :
    STEP Y (Proc.devRef .tc main_v4_5) = fun _ => BitVec.ofNat 32 (k + 1) := by
  rw [STEP_main_v4_5]
  unfold step_main_v4_5
  rw [hY]
  funext i
  show BitVec.ofNat 32 k + 1#32 = _
  rw [BitVec.ofNat_add]

/-- The activations gain the position's bit times its weight. -/
theorem activation (k : ℕ) (hk : k < 4096) (hY : Y (Proc.devRef .tc main_v4_5) = fun _ => BitVec.ofNat 32 k)
    (b : Fin 64) (J : Fin 2048) :
    act (STEP Y) (ix2 b J)
      = act Y (ix2 b J)
        + bits Y (ix2 ⟨k, hk⟩ b)
          * wt Y (ix2 ⟨k, hk⟩ J) := by
  rw [act, STEP_main_v4_6]
  unfold step_main_v4_6
  rw [hY, dynamicSlice_eq_extract S1x64 _ _ _ ![k, 0] (fits64 k hk) (starts k hk),
    dynamicSlice_eq_extract S1x2048 _ _ _ ![k, 0] (fits2048 k hk) (starts k hk)]
  exact activation_read _ _ _ k hk b J

/-- The logits gain row `k`: the position's offset plus the sum over the hidden units of the sigmoid of the biased activation
    times the position's weight. The other rows stay. -/
theorem logits (k : ℕ) (hk : k < 4096) (hY : Y (Proc.devRef .tc main_v4_5) = fun _ => BitVec.ofNat 32 k)
    (n : Fin 4096) (b : Fin 64) :
    lgt (STEP Y) (ix2 n b)
      = if n.val = k then
          off Y (ix1 ⟨k, hk⟩)
            + ∑ J : Fin 2048, Ideal.logistic (bias Y (ix1 J)
                + act Y (ix2 b J))
              * vt Y (ix2 ⟨k, hk⟩ J)
        else lgt Y (ix2 n b) := by
  rw [lgt, STEP_main_v4_7]
  unfold step_main_v4_7
  rw [hY, dynamicSlice_eq_extract S1 _ _ _ ![k] (fits1 k hk) (starts1 k hk),
    dynamicSlice_eq_extract S1x2048 _ _ _ ![k, 0] (fits2048 k hk) (starts k hk),
    dynamicUpdateSlice_eq_update _ _ _ _ ![k, 0] (fits64 k hk) (starts k hk)]
  refine (row_read _ _ k hk n b).trans ?_
  split_ifs with e
  · refine (logit_read _ (gate (bias Y) (act Y)) _ k hk b).trans ?_
    simp only [gate_read]
  · rfl

end Cert.Proof.RefStep
-- ==== Proof.RefValue.lean ====
/-
  The reference's result over the extended reals. After `k` positions the loop's activations are what the first `k` bits
  add, and its first `k` rows of logits are the model's logits; the sum after the loop is then the likelihood's formula.
-/
module

public import proofs.«01_k».proof.Proof.RefStep

@[expose] public section

set_option maxRecDepth 8192

noncomputable section

namespace Cert.Proof.RefValue

open Idealize.ShloMosaic Idealize.ShloMosaic.StableHlo
open Cert.ReferenceIdeal Cert.ReferenceIdeal.Gen Cert.ReferenceIdeal.Value
open Cert.Proof.Spec Cert.Proof.Algebra Cert.Proof.RefStep Cert.Proof.RefRun

variable (m : (ℓ : Loc nD τ sig) → Buf (Elt Ideal) ℓ) (c : Dev nD)

/-- The bits. -/
abbrev X : FVec Ideal S64x4096 .f32 := m ((c.tc : Thread nD τ).loc main_arg0)
/-- The weights. -/
abbrev Wt : FVec Ideal S2048x4096 .f32 := m ((c.tc : Thread nD τ).loc main_arg1)
/-- The offset. -/
abbrev C : FVec Ideal S2048 .f32 := m ((c.tc : Thread nD τ).loc main_arg2)
/-- The output weights. -/
abbrev U : FVec Ideal S4096x2048 .f32 := m ((c.tc : Thread nD τ).loc main_arg3)
/-- The biases. -/
abbrev B : FVec Ideal S4096 .f32 := m ((c.tc : Thread nD τ).loc main_arg4)

/-- The carried arrays before position `k`. -/
abbrev S (k : ℕ) : Valuation τ sig (Elt Ideal) := STEP^[k] (entryContents preI m c)

/-- The transposed weights, read at an entry. -/
theorem transpose_read2048 (w : FVec Ideal S2048x4096 .f32) (n : Fin 4096) (J : Fin 2048) :
    transpose S4096x2048 [1, 0] w transposes_S2048x4096_S4096x2048_1_0 (ix2 n J) = w (ix2 J n) := by
  pointwise
/-- The transposed bits, read at an entry. -/
theorem transpose_read64 (x : FVec Ideal S64x4096 .f32) (n : Fin 4096) (b : Fin 64) :
    transpose S4096x64 [1, 0] x transposes_S64x4096_S4096x64_1_0 (ix2 n b) = x (ix2 b n) := by
  pointwise
/-- The array of zeros, read at an entry. -/
theorem zero_read (b : Fin 64) (J : Fin 2048) :
    broadcastInDim S64x2048 ![] bcast_S_S64x2048 (constant (F := Ideal) S_ .f32 0#32) (ix2 b J) = 0 := by
  pointwise

/-- Row `n` of the loop's first input is column `n` of the weights. -/
theorem entry_wt (n : Fin 4096) (J : Fin 2048) : wt (S m c 0) (ix2 n J) = Wt m c (ix2 J n) := by
  show StableHlo.after hostOps0 (fun b => m (c, b)) (Proc.devRef .tc main_v4_0) (ix2 n J) = _
  after_reads_simp
  rw [id_eq]
  exact transpose_read2048 _ _ _
/-- The loop's second input is the output weights. -/
theorem entry_vt : vt (S m c 0) = U m c := by
  show StableHlo.after hostOps0 (fun b => m (c, b)) (Proc.devRef .tc main_v4_1) = _
  after_reads_simp
  rfl
/-- The loop's third input is the biases of the positions. -/
theorem entry_off : off (S m c 0) = B m c := by
  show StableHlo.after hostOps0 (fun b => m (c, b)) (Proc.devRef .tc main_v4_2) = _
  after_reads_simp
  rfl
/-- Row `n` of the loop's fourth input is column `n` of the bits. -/
theorem entry_bits (n : Fin 4096) (b : Fin 64) : bits (S m c 0) (ix2 n b) = X m c (ix2 b n) := by
  show StableHlo.after hostOps0 (fun b => m (c, b)) (Proc.devRef .tc main_v4_3) (ix2 n b) = _
  after_reads_simp
  rw [id_eq]
  exact transpose_read64 _ _ _
/-- The loop adds the offset of the hidden units. -/
theorem entry_bias : bias (S m c 0) = C m c := by
  show StableHlo.after hostOps0 (fun b => m (c, b)) (Proc.devRef .tc main_v4_4) = _
  after_reads_simp
  rfl
/-- The activations start at zero. -/
theorem entry_act (b : Fin 64) (J : Fin 2048) : act (S m c 0) (ix2 b J) = 0 := by
  show StableHlo.after hostOps0 (fun b => m (c, b)) (Proc.devRef .tc main_v4_6) (ix2 b J) = _
  after_reads_simp
  rw [id_eq]
  exact zero_read _ _

/-- One more position. -/
theorem S_succ (k : ℕ) : S m c (k + 1) = STEP (S m c k) := Function.iterate_succ_apply' _ _ _

/-- The positions leave the weights as they were. -/
theorem keep_wt : ∀ k, wt (S m c k) = wt (S m c 0)
  | 0 => rfl
  | k + 1 => by rw [← keep_wt k, S_succ]; exact STEP_main_v4_0 _
/-- The positions leave the output weights as they were. -/
theorem keep_vt : ∀ k, vt (S m c k) = vt (S m c 0)
  | 0 => rfl
  | k + 1 => by rw [← keep_vt k, S_succ]; exact STEP_main_v4_1 _
/-- The positions leave the biases as they were. -/
theorem keep_off : ∀ k, off (S m c k) = off (S m c 0)
  | 0 => rfl
  | k + 1 => by rw [← keep_off k, S_succ]; exact STEP_main_v4_2 _
/-- The positions leave the bits as they were. -/
theorem keep_bits : ∀ k, bits (S m c k) = bits (S m c 0)
  | 0 => rfl
  | k + 1 => by rw [← keep_bits k, S_succ]; exact STEP_main_v4_3 _
/-- The positions leave the offset as it was. -/
theorem keep_bias : ∀ k, bias (S m c k) = bias (S m c 0)
  | 0 => rfl
  | k + 1 => by rw [← keep_bias k, S_succ]; exact STEP_main_v4_4 _

/-- The counter before position `k` is `k`. -/
theorem counter_at : ∀ k, S m c k (Proc.devRef .tc main_v4_5) = fun _ => BitVec.ofNat 32 k
  | 0 => ctr_entry m c
  | k + 1 => by rw [S_succ]; exact RefStep.counter _ k (counter_at k)

/-- The activations before position `k` are what the first `k` bits add. -/
theorem act_at (b : Fin 64) (J : Fin 2048) : ∀ k, k ≤ 4096 → act (S m c k) (ix2 b J) = seen (X m c) (Wt m c) k b J
  | 0, _ => (entry_act m c b J).trans (Spec.upto_zero _).symm
  | k + 1, h => by
    rw [S_succ, activation _ k (by omega) (counter_at m c k), act_at b J k (by omega), keep_bits, keep_wt, entry_bits,
      entry_wt, seen, seen, upto_succ _ k (by omega)]

/-- The logits of the positions before `k` are the model's. -/
theorem lgt_at (b : Fin 64) : ∀ k, k ≤ 4096 → ∀ n : Fin 4096, n.val < k →
    lgt (S m c k) (ix2 n b) = logit (X m c) (Wt m c) (C m c) (U m c) (B m c) n b
  | 0, _, n, hn => by omega
  | k + 1, h, n, hn => by
    rw [S_succ, RefStep.logits _ k (by omega) (counter_at m c k)]
    split_ifs with e
    · subst e
      rw [keep_off, entry_off, keep_bias, entry_bias, keep_vt, entry_vt, logit]
      simp only [act_at m c b _ n.val (by omega)]
    · exact lgt_at b k (by omega) n (by omega)

/-- The host's `log_sigmoid`, read at an entry. -/
theorem hostLogSigmoid_read (l : FVec Ideal S64x4096 .f32) (b : Fin 64) (n : Fin 4096) :
    hostLogSigmoid l (ix2 b n) = logSig (l (ix2 b n)) := by
  pointwise [hostLogSigmoid, logSig]
  exact congrArg Neg.neg (if_neg (not_not.mpr rfl))

/-- The sum after the loop, read at an entry. -/
theorem hostResult_read (x : FVec Ideal S64x4096 .f32) (lg : FVec Ideal S4096x64 .f32) (b : Fin 64) :
    hostResult x lg (ix1 b) = ∑ n : Fin 4096, bitLik (x (ix2 b n)) (lg (ix2 n b)) := by
  pointwise [hostResult, hostLogSigmoid_read]
  rfl

/-- The reference's result is the likelihood's formula. -/
theorem result_eq (b : Fin 64) : hostResult (X m c) (lgt (S m c 4096)) (ix1 b)
    = lik (X m c) (Wt m c) (C m c) (U m c) (B m c) 4096 b := by
  rw [hostResult_read, lik, upto_all]
  exact Finset.sum_congr rfl fun n _ => by rw [lgt_at m c b 4096 le_rfl n n.isLt]

end Cert.Proof.RefValue
-- ==== Proof.Finite.lean ====
/-
  What the precondition says of the kernel's memory: every output weight is a real number.
-/
module

public import proofs.«01_k».proof.Defs
public import proofs.«01_k».proof.Pre_finite_weights
public import Idealize.ShloMosaic.Lib.Pointwise

@[expose] public section

set_option maxRecDepth 8192

noncomputable section

namespace Cert.Proof.Finite

open Idealize.ShloMosaic

/-- The one shape condition of the precondition's operations. -/
theorem facts : Cert.Pre_finite_weights.Facts := ⟨by decide⟩

/-- The word the weights are compared with stands for `+∞`. -/
theorem ofBits_inf : Ideal.ofBits FTy.f32 0x7F800000#32 = ⊤ := by
  simp [Ideal.ofBits, Ideal.ieee]

/-- A number whose absolute value is below `+∞` is real. -/
theorem real_of_abs_lt (x : EReal) (h : max x (-x) < ⊤) : ∃ v : ℝ, x = (v : EReal) := by
  induction x with
  | bot => simp at h
  | coe v => exact ⟨v, rfl⟩
  | top => simp at h

/-- The comparison's answer, read at one number. -/
theorem real_of_compare (x : EReal)
    (h : BitVec.ofBool (decide (max x (-x) < Ideal.ofBits FTy.f32 0x7F800000#32)) = 1#1) : ∃ v : ℝ, x = (v : EReal) := by
  rw [ofBits_inf] at h
  refine real_of_abs_lt x ?_
  by_contra hn
  rw [decide_eq_false hn] at h
  exact absurd h (by decide)

/-- Every output weight of a memory with the precondition is real. -/
theorem weights_real (m : (ℓ : Loc Cert.KernelIdeal.nD Cert.KernelIdeal.τ Cert.KernelIdeal.sig) → Buf (Elt Ideal) ℓ)
    (h : Cert.Pre_KernelIdeal_finite_weights (hPre_finite_weights := facts) m) (c : Dev Cert.KernelIdeal.nD)
    (i : Cert.KernelIdeal.S4096x2048.Idx) :
    ∃ v : ℝ, (m ((c.tc : Thread Cert.KernelIdeal.nD Cert.KernelIdeal.τ).loc Cert.KernelIdeal.main_arg3) :
      Vec Ideal Cert.KernelIdeal.S4096x2048 .f32) i = (v : EReal) :=
  real_of_compare _ (congrFun (h c) i)

end Cert.Proof.Finite
-- ==== Proof.lean ====
/-
  The proof of the certificate's claims: the programs' frames, the idealization, and that kernel and reference end with the
  same result, the log-likelihood written in Proof/Spec.lean.
-/
module

public import proofs.«01_k».proof.Defs
public import proofs.«01_k».proof.Proof.Gen.Kernel.Frame
public import proofs.«01_k».proof.Proof.Gen.KernelIdeal.Frame
public import proofs.«01_k».proof.Proof.KernelRun
public import proofs.«01_k».proof.Proof.RefValue
public import proofs.«01_k».proof.Proof.Finite

@[expose] public section

noncomputable section

namespace Cert.Proof

open Idealize.ShloMosaic Idealize.SL.Sem

/-- The reference terminates without a fault, with its arguments unchanged and every semaphore at zero. -/
theorem frame_r : Cert.quiescent_ReferenceIdeal (hReferenceIdeal := Cert.ReferenceIdeal.Gen.facts) := fun m ρ _ =>
  (θ_run Cert.ReferenceIdeal.defs _ _).mono (fun _ h => ⟨fun c => by
    have := (h.1 c).2
    exact ⟨this _ (by decide), this _ (by decide), this _ (by decide), this _ (by decide), this _ (by decide)⟩, h.2⟩)
    (RefRun.run m ρ)

/-- Arguments that agree give the kernel's result and the reference's the same contents. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : RefValue.X m' c = KernelFold.X m c) (h1 : RefValue.Wt m' c = KernelFold.Wt m c)
    (h2 : RefValue.C m' c = KernelFold.C m c) (h3 : RefValue.U m' c = KernelFold.U m c)
    (h4 : RefValue.B m' c = KernelFold.B m c) :
    RefRun.hostResult (RefValue.X m' c) (RefStep.lgt (RefValue.S m' c 4096)) = KernelRun.result m c := by
  funext i
  obtain ⟨b, rfl⟩ : ∃ b, i = ix1 b := ⟨i 0, by idx_vars i⟩
  rw [RefValue.result_eq, h0, h1, h2, h3, h4]
  rfl

/-- With real output weights, kernel and reference end with the same log-likelihoods, whatever memory they start from. -/
theorem value : Cert.algebraic_KernelIdeal_ReferenceIdeal_pre_finite_weights (hKernelIdeal := Cert.KernelIdeal.Gen.facts)
    (hReferenceIdeal := Cert.ReferenceIdeal.Gen.facts) (hPre_finite_weights := Finite.facts) := by
  intro m g m' g' hpre hargs
  refine ⟨fun c => KernelRun.result m c, KernelRun.run m g fun c i => Finite.weights_real m hpre c i, ?_⟩
  refine (θ_run Cert.ReferenceIdeal.defs _ _).mono (fun r h c => ?_) (RefRun.run m' g')
  obtain ⟨h0, h1, h2, h3, h4⟩ := hargs c
  obtain ⟨hres, hkeep⟩ := h.1 c
  exact ⟨hres.trans (results_agree m m' c h0 h1 h2 h3 h4),
    hkeep _ (by decide), hkeep _ (by decide), hkeep _ (by decide), hkeep _ (by decide), hkeep _ (by decide)⟩

/-- Every claim. -/
theorem claim : Cert.Claim := ⟨Cert.Kernel.Gen.facts, Cert.KernelIdeal.Gen.facts, Cert.ReferenceIdeal.Gen.facts, Finite.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial, trivial, value⟩

end Cert.Proof

end
